-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_ln10" .f32 0x3EDE5BD9#32 (((Real.log 10)⁻¹ : ℝ) : EReal)
  ∧ IdealRules.named_const.Statement Cert.KernelIdeal.κ "inv_top_count" .f32 0x34A00A01#32 ((3354624⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S1839104 : Shape := ⟨1, ![1839104]⟩
abbrev S512x128 : Shape := ⟨2, ![512, 128]⟩
abbrev S57472 : Shape := ⟨1, ![57472]⟩
abbrev S16 : Shape := ⟨1, ![16]⟩
abbrev S_ : Shape := ⟨0, ![]⟩
abbrev S1x16 : Shape := ⟨2, ![1, 16]⟩
abbrev S2x16x128x449 : Shape := ⟨4, ![2, 16, 128, 449]⟩
abbrev S2x16x128x448 : Shape := ⟨4, ![2, 16, 128, 448]⟩
abbrev S2x2048x448 : Shape := ⟨3, ![2, 2048, 448]⟩
abbrev S512x2048 : Shape := ⟨2, ![512, 2048]⟩
abbrev S1x1 : Shape := ⟨2, ![1, 1]⟩
abbrev S1x2048x448 : Shape := ⟨3, ![1, 2048, 448]⟩
abbrev S2048x448 : Shape := ⟨2, ![2048, 448]⟩
abbrev S448x448 : Shape := ⟨2, ![448, 448]⟩
abbrev S1x448 : Shape := ⟨2, ![1, 448]⟩
abbrev S1x447 : Shape := ⟨2, ![1, 447]⟩
abbrev S2048x447 : Shape := ⟨2, ![2048, 447]⟩
abbrev S2048 : Shape := ⟨1, ![2048]⟩
abbrev S1x2048 : Shape := ⟨2, ![1, 2048]⟩
abbrev S1 : Shape := ⟨1, ![1]⟩

abbrev nBuf : Table → Nat
  | .hbm => 9
  | .local .tc .vmem => 5
  | .local .tc .smem => 1
  | .local .scVector .vmem => 2
  | _ => 0

abbrev bufTy : (tb : Table) → Fin (nBuf tb) → BufTy
  | .hbm, ⟨0, _⟩ => ⟨S16384x2048, .i32⟩
  | .hbm, ⟨1, _⟩ => ⟨S16384x2048, .f32⟩
  | .hbm, ⟨2, _⟩ => ⟨S1839104, .i32⟩
  | .hbm, ⟨3, _⟩ => ⟨S2x16x128x449, .i32⟩
  | .hbm, ⟨4, _⟩ => ⟨S2x16x128x448, .i32⟩
  | .hbm, ⟨5, _⟩ => ⟨S2x2048x448, .i32⟩
  | .hbm, ⟨6, _⟩ => ⟨S16384x2048, .f32⟩
  | .hbm, ⟨7, _⟩ => ⟨S1x1, .f32⟩
  | .hbm, ⟨8, _⟩ => ⟨S_, .f32⟩
  | .local .tc .vmem, ⟨0, _⟩ => ⟨S512x2048, .f32⟩
  | .local .tc .vmem, ⟨1, _⟩ => ⟨S512x2048, .f32⟩
  | .local .tc .vmem, ⟨2, _⟩ => ⟨S512x2048, .f32⟩
  | .local .tc .vmem, ⟨3, _⟩ => ⟨S512x2048, .f32⟩
  | .local .tc .vmem, ⟨4, _⟩ => ⟨S2x2048x448, .i32⟩
  | .local .tc .smem, ⟨0, _⟩ => ⟨S1x1, .f32⟩
  | .local .scVector .vmem, ⟨0, _⟩ => ⟨S512x128, .i32⟩
  | .local .scVector .vmem, ⟨1, _⟩ => ⟨S57472, .i32⟩
  | _, _ => ⟨S16384x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_arg0_scv : Ref sig .scVector := ⟨.hbm, 0, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc2_sem0_0 : DmaSem sig := 6
abbrev cc2_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_7 : BitVec 32 := 0#32
  let c3592_i32 : BitVec 32 := 3592#32
  let v23 : BitVec 32 := Scalar.addi c0_i32_7 c3592_i32
  let c1_i32_8 : BitVec 32 := 1#32
  ⟨c0_i32_7, v23, c1_i32_8⟩
def k0_off1 (k0_t1 : Fin k0_t1_loop.trips) : Fin 1 → Nat :=
  let c0_i32_7 : BitVec 32 := 0#32
  let c1_i32_8 : BitVec 32 := 1#32
  let arg6 : BitVec 32 := Scf.iv c0_i32_7 c1_i32_8 k0_t1
  let c16_i32_16 : BitVec 32 := 16#32
  let v28 : BitVec 32 := Scalar.muli arg6 c16_i32_16
  let v29 : Index := Scalar.indexCast v28
  ![v29.toNat]
@[reducible] def k0_t2_loop : Scf.Loop 32 :=
  let c0_i32_12 : BitVec 32 := 0#32
  let c16_i32_13 : BitVec 32 := 16#32
  let v26 : BitVec 32 := Scalar.addi c0_i32_12 c16_i32_13
  let c1_i32_14 : BitVec 32 := 1#32
  ⟨c0_i32_12, v26, c1_i32_14⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v1 c16_i32_0
  let c0_i32_4 : BitVec 32 := 0#32
  let v16 : BitVec 1 := Scalar.cmpi .ne v15 c0_i32_4
  let v17 : BitVec 1 := Scalar.andi v14 v16
  let v3 : BitVec 32 := Scalar.divsi v1 c16_i32_0
  let c1_i32 : BitVec 32 := 1#32
  let v18 : BitVec 32 := Scalar.subi v3 c1_i32
  let v19 : BitVec 32 := Scalar.select v17 v18 v3
  let c8192_i32 : BitVec 32 := 8192#32
  let v21 : BitVec 32 := Scalar.muli v19 c8192_i32
  let c0_i32_12 : BitVec 32 := 0#32
  let c1_i32_14 : BitVec 32 := 1#32
  let arg6 : BitVec 32 := Scf.iv c0_i32_12 c1_i32_14 k0_t2
  let c512_i32 : BitVec 32 := 512#32
  let v28 : BitVec 32 := Scalar.muli arg6 c512_i32
  let v29 : BitVec 32 := Scalar.addi v21 v28
  let c16_i32 : BitVec 32 := 16#32
  let v2 : BitVec 32 := Scalar.remsi v1 c16_i32
  let c128_i32 : BitVec 32 := 128#32
  let v20 : BitVec 32 := Scalar.muli v2 c128_i32
  ![v29.toNat, v20.toNat]
@[reducible] def k0_t3_loop : Scf.Loop 32 :=
  let c0_i32_17 : BitVec 32 := 0#32
  let c512_i32_18 : BitVec 32 := 512#32
  let v30 : BitVec 32 := Scalar.addi c0_i32_17 c512_i32_18
  let c1_i32_19 : BitVec 32 := 1#32
  ⟨c0_i32_17, v30, c1_i32_19⟩
def k0_off3 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v31 : Index := Scalar.indexCast arg7
  let c0 : Index := 0#32
  ![v31.toNat, 0]

def k0_chk1 (v45 : IVec S16 32) : Prop :=
  (∀ a x, ((![v45] : Fin 1 → IVec S16 32) a x).toNat < S57472.size a)
theorem k0_idx1_inb : ∀ (v45 : IVec S16 32) (k0_hw1 : k0_chk1 v45), ∀ a x, ((![v45] : Fin 1 → IVec S16 32) a x).toNat < S57472.size a := fun v45 k0_hw1 => k0_hw1
def k0_off4 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v46 : Index := Scalar.indexCast arg7
  let c16 : Index := 16#32
  ![v46.toNat, 16]

def k0_chk2 (v60 : IVec S16 32) : Prop :=
  (∀ a x, ((![v60] : Fin 1 → IVec S16 32) a x).toNat < S57472.size a)
theorem k0_idx2_inb : ∀ (v60 : IVec S16 32) (k0_hw2 : k0_chk2 v60), ∀ a x, ((![v60] : Fin 1 → IVec S16 32) a x).toNat < S57472.size a := fun v60 k0_hw2 => k0_hw2
def k0_off5 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v61 : Index := Scalar.indexCast arg7
  let c32 : Index := 32#32
  ![v61.toNat, 32]

def k0_chk3 (v75 : IVec S16 32) : Prop :=
  (∀ a x, ((![v75] : Fin 1 → IVec S16 32) a x).toNat < S57472.size a)
theorem k0_idx3_inb : ∀ (v75 : IVec S16 32) (k0_hw3 : k0_chk3 v75), ∀ a x, ((![v75] : Fin 1 → IVec S16 32) a x).toNat < S57472.size a := fun v75 k0_hw3 => k0_hw3
def k0_off6 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v76 : Index := Scalar.indexCast arg7
  let c48 : Index := 48#32
  ![v76.toNat, 48]

def k0_chk4 (v90 : IVec S16 32) : Prop :=
  (∀ a x, ((![v90] : Fin 1 → IVec S16 32) a x).toNat < S57472.size a)
theorem k0_idx4_inb : ∀ (v90 : IVec S16 32) (k0_hw4 : k0_chk4 v90), ∀ a x, ((![v90] : Fin 1 → IVec S16 32) a x).toNat < S57472.size a := fun v90 k0_hw4 => k0_hw4
def k0_off7 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v91 : Index := Scalar.indexCast arg7
  let c64 : Index := 64#32
  ![v91.toNat, 64]

def k0_chk5 (v105 : IVec S16 32) : Prop :=
  (∀ a x, ((![v105] : Fin 1 → IVec S16 32) a x).toNat < S57472.size a)
theorem k0_idx5_inb : ∀ (v105 : IVec S16 32) (k0_hw5 : k0_chk5 v105), ∀ a x, ((![v105] : Fin 1 → IVec S16 32) a x).toNat < S57472.size a := fun v105 k0_hw5 => k0_hw5
def k0_off8 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v106 : Index := Scalar.indexCast arg7
  let c80 : Index := 80#32
  ![v106.toNat, 80]

def k0_chk6 (v120 : IVec S16 32) : Prop :=
  (∀ a x, ((![v120] : Fin 1 → IVec S16 32) a x).toNat < S57472.size a)
theorem k0_idx6_inb : ∀ (v120 : IVec S16 32) (k0_hw6 : k0_chk6 v120), ∀ a x, ((![v120] : Fin 1 → IVec S16 32) a x).toNat < S57472.size a := fun v120 k0_hw6 => k0_hw6
def k0_off9 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v121 : Index := Scalar.indexCast arg7
  let c96 : Index := 96#32
  ![v121.toNat, 96]

def k0_chk7 (v135 : IVec S16 32) : Prop :=
  (∀ a x, ((![v135] : Fin 1 → IVec S16 32) a x).toNat < S57472.size a)
theorem k0_idx7_inb : ∀ (v135 : IVec S16 32) (k0_hw7 : k0_chk7 v135), ∀ a x, ((![v135] : Fin 1 → IVec S16 32) a x).toNat < S57472.size a := fun v135 k0_hw7 => k0_hw7
def k0_off10 (k0_t3 : Fin k0_t3_loop.trips) : Fin 2 → Nat :=
  let c0_i32_17 : BitVec 32 := 0#32
  let c1_i32_19 : BitVec 32 := 1#32
  let arg7 : BitVec 32 := Scf.iv c0_i32_17 c1_i32_19 k0_t3
  let v136 : Index := Scalar.indexCast arg7
  let c112 : Index := 112#32
  ![v136.toNat, 112]

def k0_chk8 (v150 : IVec S16 32) : Prop :=
  (∀ a x, ((![v150] : Fin 1 → IVec S16 32) a x).toNat < S57472.size a)
theorem k0_idx8_inb : ∀ (v150 : IVec S16 32) (k0_hw8 : k0_chk8 v150), ∀ a x, ((![v150] : Fin 1 → IVec S16 32) a x).toNat < S57472.size a := fun v150 k0_hw8 => k0_hw8
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c57472_i32 : BitVec 32 := 57472#32
  let v27 : BitVec 32 := Scalar.muli v1 c57472_i32
  ![v27.toNat]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := .none

abbrev stage2_0 : Fin 1 → Memref sig .tc .vmem S2x2048x448 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ln10" => some (((Real.log 10)⁻¹ : ℝ) : EReal)
  | "inv_top_count" => some ((3354624⁻¹ : ℝ) : EReal)
  | _ => none
-- ==== ReferenceIdeal.lean ====
abbrev S16384x2048 : Shape := ⟨2, ![16384, 2048]⟩
abbrev S_ : Shape := ⟨0, ![]⟩
abbrev S4096x2048 : Shape := ⟨2, ![4096, 2048]⟩
abbrev S1638x2048 : Shape := ⟨2, ![1638, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .i32⟩
  | .hbm, ⟨1, _⟩ => ⟨S16384x2048, .f32⟩
  | .hbm, ⟨2, _⟩ => ⟨S_, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .i32⟩
  | .hbm, ⟨15, _⟩ => ⟨S16384x2048, .i32⟩
  | .hbm, ⟨16, _⟩ => ⟨S16384x2048, .i32⟩
  | .hbm, ⟨17, _⟩ => ⟨S_, .i32⟩
  | .hbm, ⟨18, _⟩ => ⟨S16384x2048, .i32⟩
  | .hbm, ⟨19, _⟩ => ⟨S16384x2048, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S16384x2048, .i32⟩
  | .hbm, ⟨24, _⟩ => ⟨S16384x2048, .i32⟩
  | .hbm, ⟨25, _⟩ => ⟨S_, .i32⟩
  | .hbm, ⟨26, _⟩ => ⟨S16384x2048, .i32⟩
  | .hbm, ⟨27, _⟩ => ⟨S16384x2048, .i32⟩
  | .hbm, ⟨28, _⟩ => ⟨S_, .i32⟩
  | .hbm, ⟨29, _⟩ => ⟨S16384x2048, .i32⟩
  | .hbm, ⟨30, _⟩ => ⟨S16384x2048, .i32⟩
  | .hbm, ⟨31, _⟩ => ⟨S_, .i32⟩
  | .hbm, ⟨32, _⟩ => ⟨S16384x2048, .i32⟩
  | .hbm, ⟨33, _⟩ => ⟨S16384x2048, .i32⟩
  | .hbm, ⟨34, _⟩ => ⟨S_, .i32⟩
  | .hbm, ⟨35, _⟩ => ⟨S16384x2048, .i32⟩
  | .hbm, ⟨36, _⟩ => ⟨S16384x2048, .i32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S4096x2048, .f32⟩
  | .hbm, ⟨43, _⟩ => ⟨S1638x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1638x2048, .f32⟩
  | .hbm, ⟨56, _⟩ => ⟨S1638x2048, .f32⟩
  | .hbm, ⟨57, _⟩ => ⟨S_, .f32⟩
  | .hbm, ⟨58, _⟩ => ⟨S1638x2048, .f32⟩
  | .hbm, ⟨59, _⟩ => ⟨S1638x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S16384x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_c_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_cst_15 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Proof.HistPure.lean ====
/-
  The histogram's arithmetic, about no program: the bin of a word, the number of a column's rows in a bin, and what one
  scatter of sixteen ones leaves.
-/
module

public import Idealize.ShloMosaic.PureOps.ShapeOps
public import Idealize.ShloMosaic.PureOps.Vector
public import Idealize.ShloMosaic.PureOps.Float
public import Mathlib.Data.Finset.Card
public import Mathlib.Data.List.FinRange

@[expose] public section

noncomputable section

namespace Cert.Hist

open Idealize.ShloMosaic

/-- A word's bin: its upper 14 bits less those of `1.0`, clipped to `[0, 447]`. -/
def bin (x : BitVec 32) : BitVec 32 := IntOp.minsi (IntOp.maxsi (IntOp.subi (IntOp.shrui .vector x 18#32) 4064#32) 0#32) 447#32

/-- The bin as a number. -/
def binN (x : BitVec 32) : ℕ := (bin x).toNat

/-- The bin as a number: the clipped difference, on the naturals. -/
theorem binN_eq (x : BitVec 32) : binN x = min (x.toNat / 2 ^ 18 - 4064) 447 := by
  have hx := x.isLt
  have hs : (x >>> 18#32).toNat = x.toNat / 2 ^ 18 := by
    rw [show x >>> 18#32 = x >>> (18 : ℕ) from rfl, BitVec.toNat_ushiftRight, Nat.shiftRight_eq_div_pow]
  have hd : x.toNat / 2 ^ 18 < 2 ^ 14 := by omega
  unfold binN bin
  simp only [IntOp.shrui, show (18#32).toNat < 32 from by decide, if_true, IntOp.subi]
  generalize hu : x >>> 18#32 = u at *
  rw [hs.symm] at hd
  rw [← hs]
  clear hs hu hx
  have hsub : (u - 4064#32).toInt = (u.toNat : ℤ) - 4064 := by
    rw [BitVec.toInt_sub, BitVec.toInt_eq_toNat_of_lt (x := u) (by omega)]
    rw [show (4064#32).toInt = 4064 from by decide]
    rw [Int.bmod_def]; omega
  generalize hv : u - 4064#32 = v at *
  unfold IntOp.minsi IntOp.maxsi
  by_cases h0 : (0#32).slt v = true
  · rw [if_pos h0]
    have h1 : 0 < v.toInt := by rw [BitVec.slt_iff_toInt_lt] at h0; simpa using h0
    have hvn : v.toInt = (v.toNat : ℤ) := by rw [BitVec.toInt_eq_toNat_cond] at h1 ⊢; split <;> omega
    by_cases h2 : v.slt 447#32 = true
    · rw [if_pos h2]
      have h3 : v.toInt < 447 := by rw [BitVec.slt_iff_toInt_lt] at h2; simpa using h2
      omega
    · rw [if_neg h2]
      have h3 : ¬ v.toInt < 447 := by rw [BitVec.slt_iff_toInt_lt] at h2; simpa using h2
      show (447 : ℕ) = _
      omega
  · rw [if_neg h0]
    have h1 : ¬ 0 < v.toInt := by rw [BitVec.slt_iff_toInt_lt] at h0; simpa using h0
    rw [if_pos (by decide)]
    show (0 : ℕ) = _
    omega

theorem binN_lt (x : BitVec 32) : binN x < 448 := by rw [binN_eq]; omega

/-- How many of a column's first `n` words fall in bin `b`. -/
def rowsIn (w : ℕ → BitVec 32) (b n : ℕ) : ℕ := ((Finset.range n).filter fun r => binN (w r) = b).card

theorem rowsIn_succ (w : ℕ → BitVec 32) (b n : ℕ) : rowsIn w b (n + 1) = rowsIn w b n + if binN (w n) = b then 1 else 0 := by
  unfold rowsIn
  rw [Finset.range_add_one, Finset.filter_insert]
  split
  · rw [Finset.card_insert_of_notMem (by simp)]
  · rfl

theorem rowsIn_le (w : ℕ → BitVec 32) (b n : ℕ) : rowsIn w b n ≤ n :=
  (Finset.card_filter_le _ _).trans (Finset.card_range n).le

theorem rowsIn_zero (w : ℕ → BitVec 32) (b : ℕ) : rowsIn w b 0 = 0 := rfl

theorem rowsIn_congr {w w' : ℕ → BitVec 32} {b n : ℕ} (h : ∀ r < n, w r = w' r) : rowsIn w b n = rowsIn w' b n := by
  unfold rowsIn
  congr 1
  exact Finset.filter_congr fun r hr => by rw [h r (Finset.mem_range.mp hr)]

/-- The tile's histogram, at flat position `p` (column `p / 449`, bin `p % 449`), once `n` rows are counted in every
    column and one more in the columns below `16 * g`. -/
def St (w : ℕ → ℕ → BitVec 32) (n g p : ℕ) : BitVec 32 :=
  BitVec.ofNat 32 (rowsIn (fun r => w r (p / 449)) (p % 449) (n + if p / 449 < 16 * g then 1 else 0))

theorem St_zero (w : ℕ → ℕ → BitVec 32) (p : ℕ) : St w 0 0 p = 0#32 := by
  unfold St; rw [if_neg (by omega)]; rfl

/-- After the eighth group of columns the row is counted. -/
theorem St_row (w : ℕ → ℕ → BitVec 32) (n p : ℕ) (hp : p < 57472) : St w n 8 p = St w (n + 1) 0 p := by
  unfold St; rw [if_pos (by omega), if_neg (by omega)]

/-- A choice by one of two equivalent propositions is the same choice. -/
theorem ite_iff {α : Type} {p q : Prop} {_ : Decidable p} {_ : Decidable q} (h : p ↔ q) (a b : α) : (if p then a else b) = if q then a else b := by
  by_cases hp : p
  · rw [if_pos hp, if_pos (h.mp hp)]
  · rw [if_neg hp, if_neg fun hq => hp (h.mpr hq)]

/-- A fold of one-word increments at pairwise different positions adds one at each position named. -/
theorem foldl_bump {ι κ : Type} [DecidableEq ι] (pos : κ → ι) : ∀ (l : List κ) (_ : l.Pairwise fun a b => pos a ≠ pos b) (f : ι → BitVec 32) (j : ι),
    l.foldl (fun g k => fun j => if j = pos k then g (pos k) + 1#32 else g j) f j = f j + if ∃ k ∈ l, pos k = j then 1#32 else 0#32
  | [], _, f, j => by simp
  | k :: l, h, f, j => by
    rw [List.pairwise_cons] at h
    rw [List.foldl_cons, foldl_bump pos l h.2]
    by_cases hj : j = pos k
    · subst hj
      rw [if_pos rfl, if_neg (fun ⟨k', hk', e⟩ => h.1 k' hk' e.symm), if_pos ⟨k, List.mem_cons_self, rfl⟩]
      simp
    · rw [if_neg hj]
      congr 1
      refine ite_iff ⟨fun ⟨k', hk', e⟩ => ⟨k', List.mem_cons_of_mem _ hk', e⟩, fun ⟨k', hk', e⟩ => ?_⟩ _ _
      rcases List.mem_cons.mp hk' with rfl | hk'
      · exact absurd e.symm hj
      · exact ⟨k', hk', e⟩

abbrev S16' : Shape := ⟨1, ![16]⟩
abbrev SH' : Shape := ⟨1, ![57472]⟩

variable {F : FTy → Type} [FloatOps F]

/-- A scatter that adds one at sixteen different positions adds one at each position named. -/
theorem storeIdx_bump (f : Vec F SH' .i32) (iv : IVec S16' 32) (v : Vec F S16' .i32) (mask : IVec S16' 1) (hv : v = fun _ => 1#32) (hm : mask = fun _ => 1#1)
    (h : ∀ a x, ((![iv] : Fin 1 → IVec S16' 32) a x).toNat < SH'.size a)
    (hinj : ∀ k k' : Fin 16, (iv (Shape.ofLane k)).toNat = (iv (Shape.ofLane k')).toNat → k = k') (j : SH'.Idx) :
    storeIdx (F := F) (e := .i32) f ![iv] v mask true h j
      = (show BitVec 32 from f j) + if ∃ k : Fin 16, (iv (Shape.ofLane k)).toNat = (j 0).val then 1#32 else 0#32 := by
  subst hv hm
  let pos : Fin 16 → SH'.Idx := fun k => idxAt (s := SH') ![iv] h (Shape.ofLane k)
  have hpos : ∀ k, ((pos k) 0).val = (iv (Shape.ofLane k)).toNat := fun k => rfl
  have hext : ∀ i i' : SH'.Idx, (∀ a, (i a).val = (i' a).val) ↔ i = i' := fun i i' =>
    ⟨fun e => funext fun a => Fin.ext (e a), fun e a => by rw [e]⟩
  have key : storeIdx (F := F) (e := .i32) f ![iv] (fun _ => 1#32) (fun _ => 1#1) true h
      = (List.finRange 16).foldl (fun g k => fun j => if j = pos k then g (pos k) + 1#32 else g j) (f : SH'.Idx → BitVec 32) := by
    unfold storeIdx
    show (List.finRange 16).foldl _ _ = _
    congr 1
    refine funext fun g => funext fun (k : Fin 16) => funext fun j => ?_
    exact ite_iff (hext j (pos k)) (g (pos k) + 1#32) (g j)
  rw [key, foldl_bump pos]
  · congr 1
    refine ite_iff ⟨fun ⟨k, _, e⟩ => ⟨k, ?_⟩, fun ⟨k, e⟩ => ⟨k, List.mem_finRange k, ?_⟩⟩ _ _
    · rw [← hpos, e]
    · rw [← hext]; intro a; obtain rfl : a = 0 := Subsingleton.elim _ _; rw [hpos, e]
  · exact (List.nodup_finRange 16).imp fun {a b} hne e => hne (hinj a b (by rw [← hpos, ← hpos, e]))

/-- One lane's flat position in group `g`: its column's stretch of 449 words, at the word's bin. -/
def slotW (g : ℕ) (l : BitVec 32) (x : BitVec 32) : BitVec 32 := (l + BitVec.ofNat 32 (16 * g)) * 449#32 + bin x

theorem slotW_toNat (g l : ℕ) (hg : g < 8) (hl : l < 16) (x : BitVec 32) :
    (slotW g (BitVec.ofNat 32 l) x).toNat = (16 * g + l) * 449 + binN x := by
  have hb := binN_lt x
  unfold slotW
  rw [BitVec.toNat_add, BitVec.toNat_mul, BitVec.toNat_add, BitVec.toNat_ofNat, BitVec.toNat_ofNat]
  show ((_ % _) * 449 % _ + binN x) % _ = _
  omega

/-- One scatter of the kernel takes the counts after `g` groups to those after `g + 1`. -/
theorem scatter_step (w : ℕ → ℕ → BitVec 32) (n g : ℕ) (hg : g < 8) (f : Vec F SH' .i32) (hf : ∀ j : SH'.Idx, f j = St w n g (j 0).val)
    (iv : IVec S16' 32) (v : Vec F S16' .i32) (mask : IVec S16' 1) (hv : v = fun _ => 1#32) (hm : mask = fun _ => 1#1)
    (hiv : ∀ k : Fin 16, iv (Shape.ofLane k) = slotW g (BitVec.ofNat 32 k.val) (w n (16 * g + k.val)))
    (h : ∀ a x, ((![iv] : Fin 1 → IVec S16' 32) a x).toNat < SH'.size a) (j : SH'.Idx) :
    storeIdx (F := F) (e := .i32) f ![iv] v mask true h j = St w n (g + 1) (j 0).val := by
  have hn : ∀ k : Fin 16, (iv (Shape.ofLane k)).toNat = (16 * g + k.val) * 449 + binN (w n (16 * g + k.val)) := fun k => by
    rw [hiv k, slotW_toNat g k.val hg k.isLt]
  have hb : ∀ x, binN x < 448 := binN_lt
  rw [storeIdx_bump f iv v mask hv hm h]
  · rw [hf j]
    have hp : (j 0).val < 57472 := (j 0).isLt
    generalize (j 0).val = p at *
    unfold St
    by_cases h1 : p / 449 < 16 * g
    · rw [if_pos h1, if_pos (show p / 449 < 16 * (g + 1) by omega), if_neg, BitVec.add_zero]
      rintro ⟨k, hk⟩
      rw [hn k] at hk; have := hb (w n (16 * g + k.val)); omega
    · by_cases h2 : p / 449 < 16 * (g + 1)
      · rw [if_neg h1, if_pos h2, Nat.add_zero, rowsIn_succ, BitVec.ofNat_add]
        congr 1
        by_cases h3 : binN (w n (p / 449)) = p % 449
        · rw [if_pos h3, if_pos]
          refine ⟨⟨p / 449 - 16 * g, by omega⟩, ?_⟩
          rw [hn]
          show (16 * g + (p / 449 - 16 * g)) * 449 + binN (w n (16 * g + (p / 449 - 16 * g))) = p
          rw [show 16 * g + (p / 449 - 16 * g) = p / 449 from by omega, h3]; omega
        · rw [if_neg h3, if_neg]
          rintro ⟨k, hk⟩
          rw [hn k] at hk
          have h4 := hb (w n (16 * g + k.val))
          have h5 : p / 449 = 16 * g + k.val := by omega
          rw [h5] at h3
          exact h3 (by omega)
      · rw [if_neg h1, if_neg h2, if_neg, BitVec.add_zero]
        rintro ⟨k, hk⟩
        rw [hn k] at hk; have := hb (w n (16 * g + k.val)); have := k.isLt; omega
  · intro k k' e
    rw [hn, hn] at e
    have h1 := hb (w n (16 * g + k.val)); have h2 := hb (w n (16 * g + k'.val))
    exact Fin.ext (by omega)

/-- The positions one scatter names are in range. -/
theorem slot_inb (w : ℕ → ℕ → BitVec 32) (n g : ℕ) (hg : g < 8) (iv : IVec S16' 32)
    (hiv : ∀ k : Fin 16, iv (Shape.ofLane k) = slotW g (BitVec.ofNat 32 k.val) (w n (16 * g + k.val))) :
    ∀ a x, ((![iv] : Fin 1 → IVec S16' 32) a x).toNat < SH'.size a := by
  intro a x
  obtain rfl : a = 0 := Subsingleton.elim _ _
  have hx : x = Shape.ofLane (d := ![16]) (x 0) := by
    funext b; obtain rfl : b = 0 := Subsingleton.elim _ _; rfl
  show (iv x).toNat < 57472
  have hl : (x 0).val < 16 := (x 0).isLt
  have e := hiv (x 0)
  rw [← hx] at e
  rw [e, slotW_toNat g _ hg hl]
  have := binN_lt (w n (16 * g + (x 0).val))
  omega

/-- An array's entry by two numbers, each taken into its range. -/
def at2 {α : Type} {R C : ℕ} (hR : 0 < R) (hC : 0 < C) (x : (⟨2, ![R, C]⟩ : Shape).Idx → α) (r c : ℕ) : α :=
  x fun | 0 => ⟨r % R, Nat.mod_lt _ hR⟩ | 1 => ⟨c % C, Nat.mod_lt _ hC⟩

/-- The words tile number `wid` counts: 8192 rows of 128 columns of the whole array of words. -/
def tileW (x : (⟨2, ![16384, 2048]⟩ : Shape).Idx → BitVec 32) (wid r c : ℕ) : BitVec 32 :=
  at2 (by decide) (by decide) x (8192 * (wid / 16) + r) (128 * (wid % 16) + c)

/-- What the tiles leave, at flat position `p` of the 32 histograms side by side. -/
def histAt (x : (⟨2, ![16384, 2048]⟩ : Shape).Idx → BitVec 32) (p : ℕ) : BitVec 32 :=
  St (tileW x (p / 57472)) 8192 0 (p % 57472)

end Cert.Hist

end
-- ==== Proof.TileIdeal.lean ====
/-
  One vector subcore's task: the histogram zeroed, sixteen chunks of 512 rows fetched and counted, the histogram written out. Proved once at a symbolic
  (SparseCore, subcore) pair, carrying the counts.
-/
module

public import proofs.«01_k».proof.Defs
public import proofs.«01_k».proof.Proof.HistPure
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.Pipeline.Kit
public import Idealize.ShloMosaic.Lib.Pipeline.Value
public import Idealize.ShloMosaic.Lib.StableHlo.Run
public import Idealize.ShloMosaic.Lib.Tactic

@[expose] public section

noncomputable section

namespace Cert.KernelIdeal.Proof

open Cert.KernelIdeal Cert.KernelIdeal.Gen Cert.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

/-- The launch's side conditions on the handshake semaphores and the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the pipelines' rounds live. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The buffers a task names -/

variable (m : (ℓ : Loc nD τ sig) → Buf (Elt F) ℓ)

/-- The words (the argument) and the histograms (the call's result). -/
abbrev wLoc (d : Dev nD) : Loc nD τ sig := (SparseCore.T d).loc main_arg0
abbrev oLoc (d : Dev nD) : Loc nD τ sig := (SparseCore.T d).loc main_v1

abbrev wV : Memref sig .scVector .hbm S16384x2048 .i32 := Memref.whole main_arg0_scv
abbrev oV : Memref sig .scVector .hbm S1839104 .i32 := Memref.whole main_v1_scv
/-- A task's scratch: one chunk of words, the histogram. -/
abbrev sC : Memref sig .scVector .vmem S512x128 .i32 := Memref.whole cc0_scratch0
abbrev sH : Memref sig .scVector .vmem S57472 .i32 := Memref.whole cc0_scratch1

/-- The words as an array of numbers. -/
abbrev words (d : Dev nD) : S16384x2048.Idx → BitVec 32 := m (wLoc d)

/-- What the call leaves in the histograms' buffer. -/
def outC (d : Dev nD) : Buf (Elt F) (oLoc d) := fun j => histAt (words m d) (j 0).val

section Tile

variable (d : Dev nD) (L : grid0.Coords)

abbrev cV (L : grid0.Coords) : Fin τ.nSC := (L 0).castLE hcore0
abbrev jV (L : grid0.Coords) : Fin τ.nSub := (L 1).castLE hsub0
abbrev thV : Thread nD τ := V d (cV L) (jV L)
/-- The tile's number: which 57472 words of the result it writes. -/
abbrev wid (L : grid0.Coords) : ℕ := 2 * (L 1).val + (L 0).val

abbrev cAcell : GSem nD τ sig := (thV d L, .dma cc0_scoped0.sem)
abbrev cBcell : GSem nD τ sig := (thV d L, .dma cc0_scoped1.sem)

/-- The tile's words. -/
abbrev tw (r c : ℕ) : BitVec 32 := tileW (words m d) (wid L) r c

/-- The histogram scratch after `n` rows and `g` groups of the next. -/
def hst (n g : ℕ) : Buf (Elt F) ((thV d L).loc cc0_scratch1) := fun j => St (tw m d L) n g (j 0).val
/-- The chunk scratch, holding rows `n ..` of the tile's words. -/
def chunk (n : ℕ) : Buf (Elt F) ((thV d L).loc cc0_scratch0) := fun j => tw m d L (n + (j 0).val) (j 1).val

theorem k0_off2_eq : ∀ (i : grid0.Coords) (t : Fin k0_t2_loop.trips),
    k0_off2 i t = ![8192 * (wid i / 16) + 512 * t.val, 128 * (wid i % 16)] := by decide +kernel

theorem pts_sC (f : Buf (Elt F) ((thV d L).loc cc0_scratch0)) :
    ((sC : Memref sig .scVector .vmem S512x128 .i32).view.loc (thV d L) ↦[(sC : Memref sig .scVector .vmem S512x128 .i32).view.set]{fullShare} f : sProp 𝕄)
      = (thV d L).loc cc0_scratch0 ↦{fullShare} f := by
  simp only [Memref.view_whole, View.set_whole]
theorem pts_sH (f : Buf (Elt F) ((thV d L).loc cc0_scratch1)) :
    ((sH : Memref sig .scVector .vmem S57472 .i32).view.loc (thV d L) ↦[(sH : Memref sig .scVector .vmem S57472 .i32).view.set]{fullShare} f : sProp 𝕄)
      = (thV d L).loc cc0_scratch1 ↦{fullShare} f := by
  simp only [Memref.view_whole, View.set_whole]
theorem pts_sH_whole (f : Buf (Elt F) ((thV d L).loc cc0_scratch1)) :
    (((sH : Memref sig .scVector .vmem S57472 .i32).access (.whole S57472)).loc (thV d L)
        ↦[((sH : Memref sig .scVector .vmem S57472 .i32).access (.whole S57472)).set]{fullShare} f : sProp 𝕄)
      = (thV d L).loc cc0_scratch1 ↦{fullShare} f := by
  rw [show ((sH : Memref sig .scVector .vmem S57472 .i32).access (.whole S57472)).set = Finset.univ from Memref.set_access_whole (cc0_scratch1 : Ref sig .scVector)]

variable [FloatOps F] [Named F]

/-- One scatter of the task, on the histogram held at the counts: the next group counted. -/
theorem wp_scatter {α : Type} (n g : ℕ) (hg : g < 8) (iv : IVec S16 32)
    (hiv : ∀ k : Fin 16, iv (Shape.ofLane k) = slotW g (BitVec.ofNat 32 k.val) (tw m d L n (16 * g + k.val)))
    {h : ∀ a x, ((![iv] : Fin 1 → IVec S16 32) a x).toNat < S57472.size a}
    {hs : ((sH : Memref sig .scVector .vmem S57472 .i32).access (.whole S57472)).Stores Finset.univ}
    {k : PUnit → Prog (TpuEff nD τ sig (Elt F) Λ₀ (thV d L).2) α} {Q : α → sProp 𝕄} :
    ((thV d L).loc cc0_scratch1 ↦{fullShare} hst m d L n g : sProp 𝕄)
      ⊢ iprop((((thV d L).loc cc0_scratch1 ↦{fullShare} hst m d L n (g + 1)) -∗ wp frame (wpE (defs₀ (F := F)) 𝒱₀ (thV d L) none) Set.univ (k ⟨⟩) Q)
        -∗ wp frame (wpE (defs₀ (F := F)) 𝒱₀ (thV d L) none) Set.univ
            (SparseCore.vectorStoreIdx (F := F) (sH : Memref sig .scVector .vmem S57472 .i32) ![iv] k0_pay14 (fun _ => 1#1) true h hs >>= k) Q) := by
  iintro H Hk
  ihave H' := (Entails.of_eq (pts_sH_whole (F := F) d L _).symm) $$ H
  iapply (SparseCore.wp_vectorStoreIdx 𝒱₀ (thV d L) none Set.univ (base := (sH : Memref sig .scVector .vmem S57472 .i32))) $$ H'
  iintro H
  iapply Hk
  have e : ((sH : Memref sig .scVector .vmem S57472 .i32).access (.whole S57472)).write (Elt F) (hst m d L n g)
      (storeIdx (((sH : Memref sig .scVector .vmem S57472 .i32).access (.whole S57472)).read (Elt F) (hst m d L n g)) ![iv] k0_pay14 (fun _ => 1#1) true h) Finset.univ
      = hst m d L n (g + 1) := by
    refine (Memref.write_access_whole_univ (Elt F) (cc0_scratch1 : Ref sig .scVector) _ _).trans ?_
    refine (congrArg (fun f => storeIdx f ![iv] k0_pay14 (fun _ => 1#1) true h) (Memref.read_access_whole (Elt F) (cc0_scratch1 : Ref sig .scVector) (hst m d L n g))).trans ?_
    funext j
    exact scatter_step (F := F) (tw m d L) n g hg (hst m d L n g) (fun _ => rfl) iv _ _ rfl rfl hiv h j
  rw [e]
  ihave H' := (Entails.of_eq (pts_sH_whole (F := F) d L _)) $$ H
  iexact H'

/-- A load of sixteen words of the chunk, lane by lane. -/
theorem ld_lane (n t g : ℕ) {off : Fin 2 → ℕ} (hoff : off = ![t, 16 * g]) (inb : ∀ a, off a + S1x16.size a ≤ S512x128.size a) (h : S1x16.ShapeCasts S16) (k : Fin 16) :
    (show BitVec 32 from shapeCast S16 ((sC : Memref sig .scVector .vmem S512x128 .i32).view.readAt (Elt F) (Rect.unit (s := S512x128) off S1x16.size inb).toLoadRect (chunk m d L n)) h
      (Shape.ofLane k)) = tw m d L (n + t) (16 * g + k.val) := by
  subst hoff
  rw [shapeCast_apply _ h (Shape.ofLane k) (fun | 0 => (0 : Fin 1) | 1 => k) (by
    rw [Shape.rowMajor_val_two, Shape.rowMajor_val_one]
    show 0 * 16 + k.val = k.val
    omega)]
  simp only [View.readAt_apply, Memref.view_whole, View.read_whole]
  show tw m d L (n + (t + 1 * 0)) (16 * g + 1 * k.val) = _
  rw [Nat.mul_zero, Nat.one_mul, Nat.add_zero]

theorem iota_lane (k : Fin 16) : iota .scVector S16 32 [0] iota_S16_d0_w32_scVector (Shape.ofLane k) = BitVec.ofNat 32 k.val := by
  unfold iota
  simp only [List.foldl_cons, List.foldl_nil, Nat.zero_mul, Nat.zero_add]
  rfl

/-! The eight groups' positions, lane by lane: the payloads are `slotW` of the lane's number and the word loaded. -/

/-- Group 0's position at lane `k`. -/
theorem pay_lane0 (ld : Vec F S1x16 .i32) (k : Fin 16) :
    k0_pay1 (iota .scVector S16 32 [0] iota_S16_d0_w32_scVector) ld (Shape.ofLane k) = slotW 0 (BitVec.ofNat 32 k.val) (shapeCast S16 ld shapeCasts_S1x16_S16 (Shape.ofLane k)) := by
  unfold k0_pay1
  rw [← iota_lane]
  generalize iota .scVector S16 32 [0] iota_S16_d0_w32_scVector = io
  generalize shapeCast S16 ld shapeCasts_S1x16_S16 = x
  rfl

/-- Group 1's position at lane `k`. -/
theorem pay_lane1 (ld : Vec F S1x16 .i32) (k : Fin 16) :
    k0_pay2 (iota .scVector S16 32 [0] iota_S16_d0_w32_scVector) ld (Shape.ofLane k) = slotW 1 (BitVec.ofNat 32 k.val) (shapeCast S16 ld shapeCasts_S1x16_S16 (Shape.ofLane k)) := by
  unfold k0_pay2
  rw [← iota_lane]
  generalize iota .scVector S16 32 [0] iota_S16_d0_w32_scVector = io
  generalize shapeCast S16 ld shapeCasts_S1x16_S16 = x
  rfl

/-- Group 2's position at lane `k`. -/
theorem pay_lane2 (ld : Vec F S1x16 .i32) (k : Fin 16) :
    k0_pay5 (iota .scVector S16 32 [0] iota_S16_d0_w32_scVector) (k0_pay3 ld) k0_pay4 (Shape.ofLane k) = slotW 2 (BitVec.ofNat 32 k.val) (shapeCast S16 ld shapeCasts_S1x16_S16 (Shape.ofLane k)) := by
  unfold k0_pay5 k0_pay3 k0_pay4
  rw [← iota_lane]
  generalize iota .scVector S16 32 [0] iota_S16_d0_w32_scVector = io
  generalize shapeCast S16 ld shapeCasts_S1x16_S16 = x
  rfl

/-- Group 3's position at lane `k`. -/
theorem pay_lane3 (ld : Vec F S1x16 .i32) (k : Fin 16) :
    k0_pay6 (iota .scVector S16 32 [0] iota_S16_d0_w32_scVector) ld (Shape.ofLane k) = slotW 3 (BitVec.ofNat 32 k.val) (shapeCast S16 ld shapeCasts_S1x16_S16 (Shape.ofLane k)) := by
  unfold k0_pay6
  rw [← iota_lane]
  generalize iota .scVector S16 32 [0] iota_S16_d0_w32_scVector = io
  generalize shapeCast S16 ld shapeCasts_S1x16_S16 = x
  rfl

/-- Group 4's position at lane `k`. -/
theorem pay_lane4 (ld : Vec F S1x16 .i32) (k : Fin 16) :
    k0_pay9 (k0_pay7 ld) (k0_pay8 (iota .scVector S16 32 [0] iota_S16_d0_w32_scVector)) (Shape.ofLane k) = slotW 4 (BitVec.ofNat 32 k.val) (shapeCast S16 ld shapeCasts_S1x16_S16 (Shape.ofLane k)) := by
  unfold k0_pay9 k0_pay7 k0_pay8
  rw [← iota_lane]
  generalize iota .scVector S16 32 [0] iota_S16_d0_w32_scVector = io
  generalize shapeCast S16 ld shapeCasts_S1x16_S16 = x
  rfl

/-- Group 5's position at lane `k`. -/
theorem pay_lane5 (ld : Vec F S1x16 .i32) (k : Fin 16) :
    k0_pay10 (iota .scVector S16 32 [0] iota_S16_d0_w32_scVector) ld (Shape.ofLane k) = slotW 5 (BitVec.ofNat 32 k.val) (shapeCast S16 ld shapeCasts_S1x16_S16 (Shape.ofLane k)) := by
  unfold k0_pay10
  rw [← iota_lane]
  generalize iota .scVector S16 32 [0] iota_S16_d0_w32_scVector = io
  generalize shapeCast S16 ld shapeCasts_S1x16_S16 = x
  rfl

/-- Group 6's position at lane `k`. -/
theorem pay_lane6 (ld : Vec F S1x16 .i32) (k : Fin 16) :
    k0_pay11 (iota .scVector S16 32 [0] iota_S16_d0_w32_scVector) ld (Shape.ofLane k) = slotW 6 (BitVec.ofNat 32 k.val) (shapeCast S16 ld shapeCasts_S1x16_S16 (Shape.ofLane k)) := by
  unfold k0_pay11
  rw [← iota_lane]
  generalize iota .scVector S16 32 [0] iota_S16_d0_w32_scVector = io
  generalize shapeCast S16 ld shapeCasts_S1x16_S16 = x
  rfl

/-- Group 7's position at lane `k`. -/
theorem pay_lane7 (ld : Vec F S1x16 .i32) (k : Fin 16) :
    k0_pay15 (k0_pay12 ld) (Shape.ofLane k) = slotW 7 (BitVec.ofNat 32 k.val) (shapeCast S16 ld shapeCasts_S1x16_S16 (Shape.ofLane k)) := by
  unfold k0_pay15 k0_pay12
  rw [← iota_lane]
  generalize iota .scVector S16 32 [0] iota_S16_d0_w32_scVector = io
  generalize shapeCast S16 ld shapeCasts_S1x16_S16 = x
  rfl

/-- One row of a chunk: eight groups of sixteen words loaded, each counted. -/
theorem row_step (n : ℕ) (t : Fin k0_t3_loop.trips) (a : Unit) :
    (iprop(((thV d L).loc cc0_scratch0 ↦{fullShare} chunk m d L n) ∗ ((thV d L).loc cc0_scratch1 ↦{fullShare} hst m d L (n + t.val) 0)) : sProp 𝕄)
      ⊢ wp frame (wpE (defs₀ (F := F)) 𝒱₀ (thV d L) none) Set.univ
          (k0_t3_body (F := F) L wV (Memref.isWhole_whole _) oV (Memref.isWhole_whole _) sC (Memref.isWhole_whole _) sH (Memref.isWhole_whole _) cc0_scoped0 cc0_scoped1
            (iota .scVector S16 32 [0] iota_S16_d0_w32_scVector) t a)
          fun _ => iprop(((thV d L).loc cc0_scratch0 ↦{fullShare} chunk m d L n) ∗ ((thV d L).loc cc0_scratch1 ↦{fullShare} hst m d L (n + (t.val + 1)) 0)) := by
  unfold k0_t3_body
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro ⟨Hc, Hh⟩
  ihave Hc := (Entails.of_eq (pts_sC (F := F) d L _).symm) $$ Hc
  -- group 0
  iapply (wp_load 𝒱₀ (thV d L) none Set.univ (m := (sC : Memref sig .scVector .vmem S512x128 .i32)) (View.setOn_subset_set _ _)) $$ Hc; iintro Hc
  have hl0 := fun k : Fin 16 => (pay_lane0 (F := F) ((sC : Memref sig .scVector .vmem S512x128 .i32).view.readAt (Elt F)
    (Rect.unit (s := S512x128) (k0_off3 t) S1x16.size (k0_off3_inb t)).toLoadRect (chunk m d L n)) k).trans
      (congrArg _ (ld_lane m d L n t.val 0 (k0_off3_eq t) _ _ k))
  rw [wp_assume_of _ _ _ _ (show k0_chk1 _ from slot_inb (tw m d L) (n + t.val) 0 (by decide) _ hl0)]
  iapply (wp_scatter m d L (n + t.val) 0 (by decide) _ hl0) $$ Hh; iintro Hh
  -- group 1
  iapply (wp_load 𝒱₀ (thV d L) none Set.univ (m := (sC : Memref sig .scVector .vmem S512x128 .i32)) (View.setOn_subset_set _ _)) $$ Hc; iintro Hc
  have hl1 := fun k : Fin 16 => (pay_lane1 (F := F) ((sC : Memref sig .scVector .vmem S512x128 .i32).view.readAt (Elt F)
    (Rect.unit (s := S512x128) (k0_off4 t) S1x16.size (k0_off4_inb t)).toLoadRect (chunk m d L n)) k).trans
      (congrArg _ (ld_lane m d L n t.val 1 (k0_off4_eq t) _ _ k))
  rw [wp_assume_of _ _ _ _ (show k0_chk2 _ from slot_inb (tw m d L) (n + t.val) 1 (by decide) _ hl1)]
  iapply (wp_scatter m d L (n + t.val) 1 (by decide) _ hl1) $$ Hh; iintro Hh
  -- group 2
  iapply (wp_load 𝒱₀ (thV d L) none Set.univ (m := (sC : Memref sig .scVector .vmem S512x128 .i32)) (View.setOn_subset_set _ _)) $$ Hc; iintro Hc
  have hl2 := fun k : Fin 16 => (pay_lane2 (F := F) ((sC : Memref sig .scVector .vmem S512x128 .i32).view.readAt (Elt F)
    (Rect.unit (s := S512x128) (k0_off5 t) S1x16.size (k0_off5_inb t)).toLoadRect (chunk m d L n)) k).trans
      (congrArg _ (ld_lane m d L n t.val 2 (k0_off5_eq t) _ _ k))
  rw [wp_assume_of _ _ _ _ (show k0_chk3 _ from slot_inb (tw m d L) (n + t.val) 2 (by decide) _ hl2)]
  iapply (wp_scatter m d L (n + t.val) 2 (by decide) _ hl2) $$ Hh; iintro Hh
  -- group 3
  iapply (wp_load 𝒱₀ (thV d L) none Set.univ (m := (sC : Memref sig .scVector .vmem S512x128 .i32)) (View.setOn_subset_set _ _)) $$ Hc; iintro Hc
  have hl3 := fun k : Fin 16 => (pay_lane3 (F := F) ((sC : Memref sig .scVector .vmem S512x128 .i32).view.readAt (Elt F)
    (Rect.unit (s := S512x128) (k0_off6 t) S1x16.size (k0_off6_inb t)).toLoadRect (chunk m d L n)) k).trans
      (congrArg _ (ld_lane m d L n t.val 3 (k0_off6_eq t) _ _ k))
  rw [wp_assume_of _ _ _ _ (show k0_chk4 _ from slot_inb (tw m d L) (n + t.val) 3 (by decide) _ hl3)]
  iapply (wp_scatter m d L (n + t.val) 3 (by decide) _ hl3) $$ Hh; iintro Hh
  -- group 4
  iapply (wp_load 𝒱₀ (thV d L) none Set.univ (m := (sC : Memref sig .scVector .vmem S512x128 .i32)) (View.setOn_subset_set _ _)) $$ Hc; iintro Hc
  have hl4 := fun k : Fin 16 => (pay_lane4 (F := F) ((sC : Memref sig .scVector .vmem S512x128 .i32).view.readAt (Elt F)
    (Rect.unit (s := S512x128) (k0_off7 t) S1x16.size (k0_off7_inb t)).toLoadRect (chunk m d L n)) k).trans
      (congrArg _ (ld_lane m d L n t.val 4 (k0_off7_eq t) _ _ k))
  rw [wp_assume_of _ _ _ _ (show k0_chk5 _ from slot_inb (tw m d L) (n + t.val) 4 (by decide) _ hl4)]
  iapply (wp_scatter m d L (n + t.val) 4 (by decide) _ hl4) $$ Hh; iintro Hh
  -- group 5
  iapply (wp_load 𝒱₀ (thV d L) none Set.univ (m := (sC : Memref sig .scVector .vmem S512x128 .i32)) (View.setOn_subset_set _ _)) $$ Hc; iintro Hc
  have hl5 := fun k : Fin 16 => (pay_lane5 (F := F) ((sC : Memref sig .scVector .vmem S512x128 .i32).view.readAt (Elt F)
    (Rect.unit (s := S512x128) (k0_off8 t) S1x16.size (k0_off8_inb t)).toLoadRect (chunk m d L n)) k).trans
      (congrArg _ (ld_lane m d L n t.val 5 (k0_off8_eq t) _ _ k))
  rw [wp_assume_of _ _ _ _ (show k0_chk6 _ from slot_inb (tw m d L) (n + t.val) 5 (by decide) _ hl5)]
  iapply (wp_scatter m d L (n + t.val) 5 (by decide) _ hl5) $$ Hh; iintro Hh
  -- group 6
  iapply (wp_load 𝒱₀ (thV d L) none Set.univ (m := (sC : Memref sig .scVector .vmem S512x128 .i32)) (View.setOn_subset_set _ _)) $$ Hc; iintro Hc
  have hl6 := fun k : Fin 16 => (pay_lane6 (F := F) ((sC : Memref sig .scVector .vmem S512x128 .i32).view.readAt (Elt F)
    (Rect.unit (s := S512x128) (k0_off9 t) S1x16.size (k0_off9_inb t)).toLoadRect (chunk m d L n)) k).trans
      (congrArg _ (ld_lane m d L n t.val 6 (k0_off9_eq t) _ _ k))
  rw [wp_assume_of _ _ _ _ (show k0_chk7 _ from slot_inb (tw m d L) (n + t.val) 6 (by decide) _ hl6)]
  iapply (wp_scatter m d L (n + t.val) 6 (by decide) _ hl6) $$ Hh; iintro Hh
  -- group 7
  iapply (wp_load 𝒱₀ (thV d L) none Set.univ (m := (sC : Memref sig .scVector .vmem S512x128 .i32)) (View.setOn_subset_set _ _)) $$ Hc; iintro Hc
  have hl7 := fun k : Fin 16 => (pay_lane7 (F := F) ((sC : Memref sig .scVector .vmem S512x128 .i32).view.readAt (Elt F)
    (Rect.unit (s := S512x128) (k0_off10 t) S1x16.size (k0_off10_inb t)).toLoadRect (chunk m d L n)) k).trans
      (congrArg _ (ld_lane m d L n t.val 7 (k0_off10_eq t) _ _ k))
  rw [wp_assume_of _ _ _ _ (show k0_chk8 _ from slot_inb (tw m d L) (n + t.val) 7 (by decide) _ hl7)]
  iapply (wp_scatter m d L (n + t.val) 7 (by decide) _ hl7) $$ Hh; iintro Hh
  rw [wp_ret]; imodintro
  have e : hst m d L (n + t.val) 8 = hst m d L (n + (t.val + 1)) 0 := by
    funext j; exact St_row (tw m d L) (n + t.val) (j 0).val (j 0).isLt
  ihave Hc := (Entails.of_eq (pts_sC (F := F) d L _)) $$ Hc
  isplitl [Hc]; · iexact Hc
  ihave Hh := (Entails.of_eq (congrArg (fun f => ((thV d L).loc cc0_scratch1 ↦{fullShare} f : sProp 𝕄)) e)) $$ Hh
  iexact Hh

/-- The zeroing's invariant: the first `16 * k` words of the histogram scratch are zero. -/
def invZ (k : ℕ) (_ : Unit) : sProp 𝕄 :=
  iprop(∃ f : Buf (Elt F) ((thV d L).loc cc0_scratch1), ⌜∀ j : S57472.Idx, (j 0).val < 16 * k → (show BitVec 32 from f j) = 0#32⌝ ∗ (thV d L).loc cc0_scratch1 ↦{fullShare} f)

/-- One trip of the zeroing. -/
theorem zero_step (t : Fin k0_t1_loop.trips) (a : Unit) :
    (invZ (F := F) d L t.val a : sProp 𝕄)
      ⊢ wp frame (wpE (defs₀ (F := F)) 𝒱₀ (thV d L) none) Set.univ
          (k0_t1_body (F := F) L wV (Memref.isWhole_whole _) oV (Memref.isWhole_whole _) sC (Memref.isWhole_whole _) sH (Memref.isWhole_whole _) cc0_scoped0 cc0_scoped1 t a)
          fun a' => invZ (F := F) d L (t.val + 1) a' := by
  unfold k0_t1_body invZ
  simp only [Prog.lift, Prog.bind_op, Prog.bind_ret, Prog.pure_eq_ret]
  iintro ⟨%f, %hf, Hh⟩
  ihave Hh := (Entails.of_eq (show ((thV d L).loc cc0_scratch1 ↦{fullShare} f : sProp 𝕄) = ((sH : Memref sig .scVector .vmem S57472 .i32).view.loc (thV d L) ↦{fullShare} f) from rfl)) $$ Hh
  iapply (wp_load 𝒱₀ (thV d L) none Set.univ (m := (sH : Memref sig .scVector .vmem S57472 .i32)) (S := Finset.univ) (Finset.subset_univ _)) $$ Hh; iintro Hh
  ihave Hh := (Entails.of_eq (show ((sH : Memref sig .scVector .vmem S57472 .i32).view.loc (thV d L) ↦{fullShare} f : sProp 𝕄)
    = (((sH : Memref sig .scVector .vmem S57472 .i32).access (Rect.unit (s := S57472) (k0_off1 t) S16.size (k0_off1_inb t))).loc (thV d L) ↦{fullShare} f) from rfl)) $$ Hh
  iapply (wp_store 𝒱₀ (thV d L) none Set.univ (m := (sH : Memref sig .scVector .vmem S57472 .i32)) (r := Rect.unit (s := S57472) (k0_off1 t) S16.size (k0_off1_inb t))
    (Mk := Finset.univ) (S := Finset.univ) (Finset.subset_univ _)) $$ Hh; iintro Hh
  rw [wp_ret]; imodintro
  iexists _; isplitr
  swap
  · iexact Hh
  · ipureintro
    intro j hj
    have e : ((sH : Memref sig .scVector .vmem S57472 .i32).access (Rect.unit (s := S57472) (k0_off1 t) S16.size (k0_off1_inb t))).write (Elt F) f k0_pay13 Finset.univ
        = updateSlice (s := S57472) (u := S16) f (k0_pay13 : IVec S16 32) (k0_off1 t) ⟨rfl, k0_off1_inb t⟩ :=
      View.write_whole_slice_unit (cc0_scratch1 : Ref sig .scVector) (k0_off1 t) S16.size (k0_off1_inb t) f _
    refine (congrFun e j).trans ?_
    unfold updateSlice
    split
    · rfl
    · rename_i hn
      refine hf j ?_
      by_contra hlt
      refine hn fun a => ?_
      have ha : a = 0 := Subsingleton.elim _ _
      subst ha
      have e0 : k0_off1 t 0 = 16 * t.val := congrFun (k0_off1_eq t) 0
      show k0_off1 t 0 ≤ (j 0).val ∧ (j 0).val < k0_off1 t 0 + 16
      omega

/-- The piece of the result the task writes. -/
abbrev oSl (L : grid0.Coords) : Memref sig .scVector .hbm S57472 .i32 :=
  (oV : Memref sig .scVector .hbm S1839104 .i32).slice (Rect.unit (s := S1839104) (k0_off11 L) S57472.size (k0_off11_inb L)) (fun _ => rfl)
/-- The chunk the task fetches on trip `t`. -/
abbrev wSl (L : grid0.Coords) (t : Fin k0_t2_loop.trips) : Memref sig .scVector .hbm S512x128 .i32 :=
  (wV : Memref sig .scVector .hbm S16384x2048 .i32).slice (Rect.unit (s := S16384x2048) (k0_off2 L t) S512x128.size (k0_off2_inb L t)) (fun _ => rfl)

theorem wid_lt (L : grid0.Coords) : wid L < 32 := by
  have h0 : (L 0).val < 2 := (L 0).isLt
  have h1 : (L 1).val < 16 := (L 1).isLt
  show 2 * (L 1).val + (L 0).val < 32
  omega

/-- What a fetch leaves in the chunk scratch. -/
theorem fetch_chunk (t : Fin k0_t2_loop.trips) (f : Buf (Elt F) ((thV d L).loc cc0_scratch0)) :
    (sC : Memref sig .scVector .vmem S512x128 .i32).view.writes (Elt F) f
      [⟨Rect.whole S512x128, (wSl L t).view.read (Elt F) (m (wLoc d))⟩] = chunk m d L (512 * t.val) := by
  show (sC : Memref sig .scVector .vmem S512x128 .i32).view.read (Elt F) ((sC : Memref sig .scVector .vmem S512x128 .i32).view.writes (Elt F) f
      [⟨Rect.whole S512x128, (wSl L t).view.read (Elt F) (m (wLoc d))⟩]) = _
  rw [View.read_writes_whole]
  funext j
  have ht : t.val < 16 := Nat.lt_of_lt_of_le t.isLt k0_t2_abs.2.1
  have h0 : (j 0).val < 512 := (j 0).isLt
  have h1 : (j 1).val < 128 := (j 1).isLt
  have hw := wid_lt L
  refine (View.read_apply _ _).trans ((cast_eq _ _).trans ?_)
  show m (wLoc d) _ = tileW (words m d) (wid L) (512 * t.val + (j 0).val) (j 1).val
  unfold tileW at2
  refine congrArg (m (wLoc d)) (funext fun a => Fin.ext ?_)
  have e : ∀ a, (((wSl L t).view.emb j) a).val = k0_off2 L t a + 1 * (j a).val := fun a => rfl
  rw [e a, k0_off2_eq]
  match a with
  | 0 => show 8192 * (wid L / 16) + 512 * t.val + 1 * (j 0).val = (8192 * (wid L / 16) + (512 * t.val + (j 0).val)) % 16384; omega
  | 1 => show 128 * (wid L % 16) + 1 * (j 1).val = (128 * (wid L % 16) + (j 1).val) % 2048; omega

/-- What the write-out leaves in the task's piece of the result. -/
theorem out_piece (f : Buf (Elt F) (oLoc d)) (x : S1839104.Idx) (hx : x ∈ (oSl L).view.set) :
    (oSl L).view.writes (Elt F) f [⟨Rect.whole S57472, (sH : Memref sig .scVector .vmem S57472 .i32).view.read (Elt F) (hst m d L 8192 0)⟩] x = outC m d x := by
  obtain ⟨y, -, rfl⟩ := Finset.mem_map.mp hx
  have e0 := congrFun (View.read_writes_whole (Val := Elt F) (oSl L).view f ((sH : Memref sig .scVector .vmem S57472 .i32).view.read (Elt F) (hst m d L 8192 0))) y
  refine ((cast_eq _ _).symm.trans (View.read_apply (v := (oSl L).view) (Val := Elt F) _ y).symm).trans (e0.trans ?_)
  show St (tileW (words m d) (wid L)) 8192 0 (y 0).val = histAt (words m d) ((((oSl L).view.emb y) 0).val)
  have e : (((oSl L).view.emb y) 0).val = k0_off11 L 0 + 1 * (y 0).val := rfl
  have hy : (y 0).val < 57472 := (y 0).isLt
  rw [e, k0_off11_eq]
  show _ = histAt _ (114944 * (L 1).val + 57472 * (L 0).val + 1 * (y 0).val)
  unfold histAt
  have hw : wid L = 2 * (L 1).val + (L 0).val := rfl
  rw [show (114944 * (L 1).val + 57472 * (L 0).val + 1 * (y 0).val) / 57472 = wid L from by omega,
    show (114944 * (L 1).val + 57472 * (L 0).val + 1 * (y 0).val) % 57472 = (y 0).val from by omega]

theorem ownSems0_V :
    (ownSems0 (thV d L) : sProp 𝕄)
      = iprop(semVal (cAcell d L) 0 ∗ semVal (cBcell d L) 0 ∗ bigSep (((ownCells (thV d L)).erase (cAcell d L)).erase (cBcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩)]

/-- The two scratch buffers are among the subcore's own. -/
theorem ownBufs_V :
    (ownBufs (thV d L) : sProp 𝕄)
      = iprop((∃ f, (thV d L).loc cc0_scratch0 ↦{fullShare} f) ∗ (∃ f, (thV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The counting's invariant before chunk `k`. -/
def invC (q : PosShare TreeShare) (O : CellTallies nD τ sig (HIx 1)) (W : Waits sig (HIx 1)) (k : ℕ) (_ : Unit) : sProp 𝕄 :=
  iprop(Transfers.MayWaits (thV d L) (none : HIx 1) O
    ∗ ((wV : Memref sig .scVector .hbm S16384x2048 .i32).view.loc (thV d L) ↦{q} m (wLoc d))
    ∗ (∃ f, (thV d L).loc cc0_scratch0 ↦{fullShare} f)
    ∗ ((thV d L).loc cc0_scratch1 ↦{fullShare} hst m d L (512 * k) 0)
    ∗ semVal (cAcell d L) 0
    ∗ ∃ W', ⌜∀ p ∈ W', p ∈ W ∨ p.2 = none⌝ ∗ owes (thV d L) O W')

theorem trips1 : k0_t1_loop.trips = 3592 := by decide +kernel
theorem trips2 : k0_t2_loop.trips = 16 := by decide +kernel
theorem trips3 : k0_t3_loop.trips = 512 := by decide +kernel

/-- One chunk: fetched, waited for, its 512 rows counted. -/
theorem chunk_step (q : PosShare TreeShare) (O : CellTallies nD τ sig (HIx 1)) (W : Waits sig (HIx 1)) (t : Fin k0_t2_loop.trips) (a : Unit) :
    (invC m d L q O W t.val a : sProp 𝕄)
      ⊢ wp frame (wpE (defs₀ (F := F)) 𝒱₀ (thV d L) none) Set.univ
          (k0_t2_body (F := F) L wV (Memref.isWhole_whole _) oV (Memref.isWhole_whole _) sC (Memref.isWhole_whole _) sH (Memref.isWhole_whole _) cc0_scoped0 cc0_scoped1
            (iota .scVector S16 32 [0] iota_S16_d0_w32_scVector) t a)
          fun a' => invC m d L q O W (t.val + 1) a' := by
  unfold k0_t2_body
  simp only [Prog.lift, Prog.bind_op, Prog.bind_ret, Prog.pure_eq_ret]
  unfold invC
  iintro ⟨Hmw, Hw, ⟨%f, Hc⟩, Hh, Hsem, %W', %hW', HO⟩
  ihave Hc := (Entails.of_eq (pts_sC (F := F) d L _).symm) $$ Hc
  sl_exec
  ihave Hc := (Entails.of_eq (pts_sC (F := F) d L _)) $$ Hc
  have hf : (sC : Memref sig .scVector .vmem S512x128 .i32).view.writes (Elt F) (sC : Memref sig .scVector .vmem S512x128 .i32).view.junk
      [⟨Rect.whole S512x128, chunk_step.sl.dma0 m d L t⟩] = chunk m d L (512 * t.val) := fetch_chunk (F := F) m d L t _
  ihave Hc := (Entails.of_eq (congrArg (fun g => ((thV d L).loc cc0_scratch0 ↦{fullShare} g : sProp 𝕄)) hf)) $$ Hc
  sl_for (fun n _ => iprop(((thV d L).loc cc0_scratch0 ↦{fullShare} chunk m d L (512 * t.val))
      ∗ ((thV d L).loc cc0_scratch1 ↦{fullShare} hst m d L (512 * t.val + n) 0))) $$ [Hc Hh]
  case region => intro n _; exact row_step (F := F) m d L (512 * t.val) n _
  · iframe Hc; iexact Hh
  · iintro %x ⟨Hc, Hh⟩
    sl_step
    iframe Hmw Hw
    isplitl [Hc]; · iexists _; iexact Hc
    isplitl [Hh]
    · ihave Hh := (Entails.of_eq (congrArg (fun n => ((thV d L).loc cc0_scratch1 ↦{fullShare} hst m d L n 0 : sProp 𝕄))
        (show 512 * t.val + k0_t3_loop.trips = 512 * (t.val + 1) by rw [trips3]; omega))) $$ Hh
      iexact Hh
    isplitl [Hsem]; · iexact Hsem
    iexists (insert (SemLoc.dma cc0_scoped0.sem, (default : HIx 1)) W')
    isplitr [HO]
    · ipureintro
      intro p hp
      rcases Finset.mem_insert.mp hp with rfl | hp
      · exact Or.inr rfl
      · exact hW' p hp
    · iexact HO

theorem pts_oSl (f : Buf (Elt F) (oLoc d)) :
    ((oSl L).view.loc (thV d L) ↦[(oSl L).view.set]{fullShare} f : sProp 𝕄) = oLoc d ↦[(oSl L).view.set]{fullShare} f := rfl
theorem pts_wV (q : PosShare TreeShare) (f : Buf (Elt F) (wLoc d)) :
    ((wV : Memref sig .scVector .hbm S16384x2048 .i32).view.loc (thV d L) ↦{q} f : sProp 𝕄) = wLoc d ↦{q} f := rfl

/-- The task on one vector subcore: its histogram zeroed, sixteen chunks fetched and counted, the histogram written to its
    piece of the result. -/
theorem tile_body (hF : (K (F := F)).Facts) (q : PosShare TreeShare) (fo : Buf (Elt F) (oLoc d)) (O : CellTallies nD τ sig (HIx 1)) (W : Waits sig (HIx 1)) (hO : ∀ g, O g none = 0) :
    (iprop(levAts (K (F := F)).L (K (F := F)).lev ∗ emp
        ∗ ((wLoc d ↦{q} m (wLoc d)) ∗ oLoc d ↦[(oSl L).view.set]{fullShare} fo)
        ∗ scopedBufs (thV d L) ∗ scopedSems0 (thV d L) ∗ owes (thV d L) O W) : sProp 𝕄)
      ⊢ wp frame (wpE (defs₀ (F := F)) 𝒱₀ (thV d L) none) Set.univ
          (cc0__sc_hist_body (F := F) L wV (Memref.isWhole_whole _) oV (Memref.isWhole_whole _) sC (Memref.isWhole_whole _) sH (Memref.isWhole_whole _) cc0_scoped0 cc0_scoped1)
          fun _ => iprop(((wLoc d ↦{q} m (wLoc d)) ∗ oLoc d ↦[(oSl L).view.set]{fullShare} outC m d)
            ∗ scopedBufs (thV d L) ∗ scopedSems0 (thV d L)
            ∗ ∃ W', ⌜∀ p ∈ W', p ∈ W ∨ p.2 = none⌝ ∗ owes (thV d L) O W') := by
  simp only [cc0__sc_hist_body_eq_skeleton]; unfold cc0__sc_hist_body_skel
  simp only [k0_part4_eq_skeleton]; unfold k0_part4_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V (F := F) d L, ownBufs_V (F := F) d L]
  iintro ⟨#Hlv, -, ⟨Hw, Ho⟩, ⟨⟨%fc, Hc⟩, ⟨%fh, Hh⟩, Hbufs⟩, ⟨HsemA, HsemB, Hsems⟩, HO⟩
  ihave Hmw := (show (levAts (K (F := F)).L (K (F := F)).lev : sProp 𝕄) ⊢ Transfers.MayWaits (thV d L) (none : HIx 1) O from (K (F := F)).mayWaits_none (thr := thV d L) hO) $$ Hlv
  ihave Hw := (Entails.of_eq (pts_wV (F := F) d L _ _).symm) $$ Hw
  ihave Ho := (Entails.of_eq (pts_oSl (F := F) d L _).symm) $$ Ho
  sl_for (invZ (F := F) d L) $$ [Hh]
  case region => intro k a; exact zero_step (F := F) d L k a
  · unfold invZ; iexists fh; isplitr
    · ipureintro; intro j hj; exact absurd hj (Nat.not_lt_zero _)
    · iexact Hh
  iintro %_ HI
  unfold invZ
  icases HI with ⟨%f0, %hf0, Hh⟩
  have hz : f0 = hst m d L 0 0 := by
    funext j
    have hj : (j 0).val < 57472 := (j 0).isLt
    have e : Scf.trips k0_t1_loop.lb k0_t1_loop.ub k0_t1_loop.st = 3592 := trips1
    exact (hf0 j (by rw [e]; omega)).trans (St_zero _ _).symm
  subst hz
  sl_exec
  sl_for (invC m d L q O W) $$ [Hmw Hw Hc Hh HsemA HO]
  case region => intro k a; exact chunk_step (F := F) m d L q O W k a
  · unfold invC
    iframe Hmw Hw
    isplitl [Hc]; · iexists _; iexact Hc
    isplitl [Hh]; · iexact Hh
    isplitl [HsemA]; · iexact HsemA
    iexists W; isplitr
    · ipureintro; exact fun p hp => .inl hp
    · iexact HO
  iintro %_ HI
  unfold invC
  icases HI with ⟨Hmw, Hw, ⟨%fc', Hc⟩, Hh, HsemA, %W', %hW', HO⟩
  have e16 : 512 * Scf.trips k0_t2_loop.lb k0_t2_loop.ub k0_t2_loop.st = 8192 := by
    have e : Scf.trips k0_t2_loop.lb k0_t2_loop.ub k0_t2_loop.st = 16 := trips2
    rw [e]
  ihave Hh := (Entails.of_eq (congrArg (fun n => ((thV d L).loc cc0_scratch1 ↦{fullShare} hst m d L n 0 : sProp 𝕄)) e16)) $$ Hh
  ihave Hh := (Entails.of_eq (pts_sH (F := F) d L _).symm) $$ Hh
  sl_exec
  sl_step
  have hov : ∀ x ∈ (oSl L).view.set, (oSl L).view.writes (Elt F) fo [⟨Rect.whole S57472, tile_body.sl.dma0 m d L⟩] x = outC m d x :=
    fun x hx => out_piece m d L fo x hx
  ihave Ho := (Entails.of_eq ((pts_oSl (F := F) d L _).trans (pointsTo_congr hov))) $$ Ho
  ihave Hh := (Entails.of_eq (pts_sH (F := F) d L _)) $$ Hh
  isplitl [Hw Ho]
  · isplitl [Hw]; · iexact Hw
    iexact Ho
  isplitl [Hc Hh Hbufs]
  · isplitl [Hc]; · iexists _; iexact Hc
    isplitl [Hh]; · iexists _; iexact Hh
    iexact Hbufs
  isplitl [HsemA HsemB Hsems]
  · isplitl [HsemA]; · iexact HsemA
    isplitl [HsemB]; · iexact HsemB
    iexact Hsems
  iexists (insert (SemLoc.dma cc0_scoped1.sem, (default : HIx 1)) W')
  isplitr
  · ipureintro
    intro p hp
    rcases Finset.mem_insert.mp hp with rfl | hp
    · exact Or.inr rfl
    · exact hW' p hp
  · iexact HO

end Tile

end Cert.KernelIdeal.Proof

end
-- ==== Proof.RegsIdeal.lean ====
/-
  The two dense calls beside the histogram call: each body's run with its value, each region's proof data over any entry
  valuation, and the region as a step of @main.
-/
module

public import proofs.«01_k».proof.Proof.TileIdeal
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.Tactic

@[expose] public section

noncomputable section

namespace Cert.KernelIdeal.Proof

open Cert.KernelIdeal Cert.KernelIdeal.Gen Cert.Hist
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation)

variable {F : FTy → Type}

local notation "𝕄" => MT nD τ sig (HIx 1) (Elt F) ℕ UU ℕ

variable [FloatOps F] [Named F]

omit [FloatOps F] [Named F] in
/-- A store over every index of a view reads back as what was stored. -/
theorem read_unit_whole {κ : Kind} {sp : Space} {s : Shape} {e : EltTy} {Val : EltTy → Type} (v : View sig κ sp s e) (off : Fin s.rank → ℕ) (h0 : ∀ a, off a = 0)
    (inb : ∀ a, off a + s.size a ≤ s.size a) (f : v.ty.Contents Val) (w : s.Idx → Val e) :
    v.read Val (v.writes Val f [⟨Rect.unit off s.size inb, w⟩]) = w := by
  obtain rfl : off = fun _ => 0 := funext h0
  exact View.read_writes_whole v f w

omit [FloatOps F] [Named F] in
/-- A load of every index of a view is the view's read. -/
theorem readAt_unit_whole {κ : Kind} {sp : Space} {s : Shape} {e : EltTy} {Val : EltTy → Type} (v : View sig κ sp s e) (off : Fin s.rank → ℕ) (h0 : ∀ a, off a = 0)
    (inb : ∀ a, off a + s.size a ≤ s.size a) (f : v.ty.Contents Val) :
    v.readAt Val (Rect.unit off s.size inb).toLoadRect f = v.read Val f := by
  obtain rfl : off = fun _ => 0 := funext h0
  funext x
  rw [View.readAt_apply]
  congr 1
  funext a
  apply Fin.ext
  show 0 + 1 * (x a).val = _
  omega

/-- The dense kernel's body at any point: the result's block is `k1_pay1` of the operand's. -/
theorem tanh_run (c : Dev nD) (i : grid1.Coords) (M0 : Memref sig .tc .vmem S512x2048 .f32) (h0 : M0.IsWhole) (M1 : Memref sig .tc .vmem S512x2048 .f32) (h1 : M1.IsWhole)
    (X : Vec F S512x2048 .f32) (Y : Vec F S512x2048 .f32) (Q : PUnit → sProp 𝕄) :
    (iprop(owns (c : Thread nD τ) M0 fullShare X ∗ owns (c : Thread nD τ) M1 fullShare Y
        ∗ (iprop(owns (c : Thread nD τ) M0 fullShare X ∗ owns (c : Thread nD τ) M1 fullShare (k1_pay1 X)) -∗ Q ⟨⟩)) : sProp 𝕄)
      ⊢ wp frame (wpE (defs₀ (F := F)) Variants.none c none) Set.univ (cc1__tanh_body (F := F) i M0 h0 M1 h1) Q := by
  rw [cc1__tanh_body_eq_skeleton]; unfold cc1__tanh_body_skel
  simp only [Prog.lift, Prog.bind_op, Prog.bind_ret, Prog.pure_eq_ret]
  unfold owns
  rw [h0.set_eq_univ, h1.set_eq_univ]
  iintro ⟨⟨%f0, %hf0, H0⟩, ⟨%f1, -, H1⟩, Hk⟩
  subst hf0
  sl_exec!
  sl_step
  have hv : M1.view.read (Elt F) (M1.view.writes (Elt F) M1.view.junk (tanh_run.sl.H1_1 c M0 f0)) = k1_pay1 (M0.view.read (Elt F) f0) := by
    have hr := readAt_unit_whole (Val := Elt F) M0.view ![0, 0] (fun a => by fin_cases a <;> rfl) inb_S512x2048_S512x2048_0_0 f0
    refine (read_unit_whole (Val := Elt F) M1.view ![0, 0] (fun a => by fin_cases a <;> rfl) inb_S512x2048_S512x2048_0_0 M1.view.junk _).trans ?_
    exact congrArg k1_pay1 hr
  iapply Hk
  isplitl [H0]
  · iexists f0; isplitr; · ipureintro; rfl
    iexact H0
  iexists _; isplitr; swap; · iexact H1
  ipureintro; exact hv

/-- The second dense kernel's body: its one number, from the counts. -/
theorem fin_run (c : Dev nD) (M0 : Memref sig .tc .vmem S2x2048x448 .i32) (h0 : M0.IsWhole) (M1 : Memref sig .tc .smem S1x1 .f32) (h1 : M1.IsWhole)
    (X : Vec F S2x2048x448 .i32) (Y : Vec F S1x1 .f32) (Q : PUnit → sProp 𝕄) :
    (iprop(owns (c : Thread nD τ) M0 fullShare X ∗ owns (c : Thread nD τ) M1 fullShare Y
        ∗ (iprop(owns (c : Thread nD τ) M0 fullShare X ∗ owns (c : Thread nD τ) M1 fullShare (fun _ => k2_pay1 (k2_pay2 (F := F)) k2_pay3 (k2_pay4 X) (k2_pay5 X))) -∗ Q ⟨⟩)) : sProp 𝕄)
      ⊢ wp frame (wpE (defs₀ (F := F)) Variants.none c none) Set.univ (cc2__fin_body (F := F) M0 h0 M1 h1) Q := by
  rw [cc2__fin_body_eq_skeleton]; unfold cc2__fin_body_skel
  simp only [k2_part1_eq_skeleton]; unfold k2_part1_skel
  simp only [Prog.lift, Prog.bind_op, Prog.bind_ret, Prog.pure_eq_ret, Prog.bind_assoc]
  unfold owns
  rw [h0.set_eq_univ, h1.set_eq_univ]
  iintro ⟨⟨%f0, %hf0, H0⟩, ⟨%f1, -, H1⟩, Hk⟩
  subst hf0
  sl_exec!
  sl_step
  have hv : M1.view.read (Elt F) (M1.view.writes (Elt F) M1.view.junk (fin_run.sl.H1_1 c M0 f0)) = fun _ => k2_pay1 (k2_pay2 (F := F)) k2_pay3 (k2_pay4 (M0.view.read (Elt F) f0)) (k2_pay5 (M0.view.read (Elt F) f0)) := by
    have hr := readAt_unit_whole (Val := Elt F) M0.view ![0, 0, 0] (fun a => by fin_cases a <;> rfl) inb_S2x2048x448_S2x2048x448_0_0_0 f0
    refine (read_unit_whole (Val := Elt F) M1.view ![0, 0] (fun a => by fin_cases a <;> rfl) inb_S1x1_S1x1_0_0 M1.view.junk _).trans ?_
    funext _
    exact congr (congrArg (k2_pay1 (k2_pay2 (F := F)) k2_pay3) (congrArg k2_pay4 hr)) (congrArg k2_pay5 hr)
  iapply Hk
  isplitl [H0]
  · iexists f0; isplitr; · ipureintro; rfl
    iexact H0
  iexists _; isplitr; swap; · iexact H1
  ipureintro; exact hv

/-! ## The thread state between the calls -/

variable (V : (c : Dev nD) → (b : Ref sig .tc) → Buf (Elt F) ((c : Thread nD τ).loc b))

/-- The TensorCore owes nothing, what it has waited on lying below the calls to come. -/
abbrev owed0 (c : Dev nD) : sProp 𝕄 :=
  iprop(∃ W, ⌜(K (F := F)).WBelow (SparseCore.T c) W 8⌝ ∗ owes (SparseCore.T c) (0 : CellTallies nD τ sig (HIx 1)) W)

/-- The pairs a wait may have recorded by the time a dense call runs. -/
abbrev recd (c : Dev nD) : Set (SemLoc sig × HIx 1) := {p | (K (F := F)).lev (SparseCore.T c, p.1) p.2 ≤ 8}

/-- A proof data for the pipeline a region does not run. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-! ## The dense region -/

abbrev rest1 (c : Dev nD) : sProp 𝕄 := Pipeline.scopedRest (Ix := HIx 1) (Name := ℕ) (U := UU) (Lvl := ℕ) (Val := Elt F) spec1 c

/-- The operand's block at a point. -/
abbrev blk1 (c : Dev nD) (t : Fin cfg1.N) : Vec F S512x2048 .f32 := ((cfg1.win 0).blk t).view.read (Elt F) (V c main_v0)

def dat1 (c : Dev nD) : Dat τ (Elt F) (HIx 1) ℕ UU ℕ cfg1 c where
  A w := V c (Pipeline.arrRef spec1 w)
  after w t := match w with
    | ⟨0, _⟩ => blk1 V c t
    | ⟨1, _⟩ => k1_pay1 (blk1 V c t)
  Φ _ := rest1 c
  q _ := fullShare
  owed _ := 0
  recorded _ := recd (F := F) c

/-- The operand's staging buffer holds its block when the body runs. -/
theorem before1 (c : Dev nD) (t : Fin cfg1.N) (d) : (dat1 V c).before 0 t d = blk1 V c t := by
  unfold Dat.before; rw [if_pos (fetch1_0 t)]; rfl

/-- The body obligation of the dense region. -/
theorem body1 (c : Dev nD) : BodyObligation (dat1 V c) (defs₀ (F := F)) Variants.none none Set.univ := fun t => by
  rw [bigSep_W1, bigSep_W1]
  rw [show (dat1 V c).Φ t.castSucc = rest1 c from rfl, show (dat1 V c).Φ t.succ = rest1 c from rfl,
    show (dat1 V c).owesAt none t.succ = (dat1 V c).owesAt none t.castSucc from rfl]
  iintro ⟨HΦ, Howes, ⟨%d0, H0⟩, ⟨%d1, H1⟩⟩
  rw [before1]
  iapply (tanh_run c (grid1.coords t) _ (hstage1_0 ((cfg1.slots t 0).cast nbuf1_0)) _ (hstage1_1 ((cfg1.slots t 1).cast nbuf1_1)) (blk1 V c t) ((dat1 V c).before 1 t d1) _)
  isplitl [H0]; · iexact H0
  isplitl [H1]; · iexact H1
  iintro ⟨H0, H1⟩
  isplitl [HΦ]; · iexact HΦ
  isplitl [Howes]; · iexact Howes
  isplitl [H0]; · iexact H0
  iexact H1

variable (adm : (p : Fin 2) → (pcfgs (F := F) p).Adm)

/-- The proof data while the dense region runs. -/
def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => idleDat c

/-- The dense region's result, from its operand's array: the rescaled logarithm's hyperbolic tangent, elementwise. -/
def tanhOut (x : FVec F S16384x2048 .f32) : FVec F S16384x2048 .f32 :=
  tanh (mulf (subf (mulf (log x) (broadcast S16384x2048 (Named.named κ "inv_ln10" 0x3EDE5BD9#32))) (broadcast S16384x2048 (Scalar.ofBits .f32 0x40800000#32)))
    (broadcast S16384x2048 (Scalar.ofBits .f32 0x3E800000#32)))

/-- Two arrays' elements at one value give one result. -/
theorem pay1_eq (v : Vec F S512x2048 .f32) (x : FVec F S16384x2048 .f32) (y : S512x2048.Idx) (j : S16384x2048.Idx) (h : v y = x j) :
    k1_pay1 v y = tanhOut x j := by
  unfold k1_pay1 tanhOut
  simp only [shapeCast_self]
  exact congrArg (fun a : F .f32 => tanh (mulf (subf (mulf (log (fun _ : S512x2048.Idx => a)) (broadcast S512x2048 (Named.named κ "inv_ln10" 0x3EDE5BD9#32)))
    (broadcast S512x2048 (Scalar.ofBits .f32 0x40800000#32))) (broadcast S512x2048 (Scalar.ofBits .f32 0x3E800000#32))) y) h

/-- What the dense region leaves in its result's array. -/
theorem arr1 (c : Dev nD) : (dat1 V c).arrAt 1 cfg1.N = tanhOut (V c main_v0) := by
  refine (dat1 V c).arrAt_eq_of_cover 1 (tanhOut (V c main_v0)) ?_ ?_
  · intro t _
    funext y
    rw [View.read_apply]
    show k1_pay1 (blk1 V c t) y = tanhOut (V c main_v0) _
    refine pay1_eq _ _ _ _ ?_
    rfl
  · intro i
    have h0 : (i 0).val < 16384 := (i 0).isLt
    have h1 : (i 1).val < 2048 := (i 1).isLt
    have hN : (i 0).val / 512 < cfg1.N := by show _ < grid1.N; rw [N_1]; omega
    let y : S512x2048.Idx := fun a => match a with | 0 => ⟨(i 0).val % 512, Nat.mod_lt _ (by decide)⟩ | 1 => ⟨(i 1).val, h1⟩
    refine ⟨⟨(i 0).val / 512, hN⟩, flush1_1 _, ?_⟩
    have hm := ((cfg1.win 1).blk ⟨(i 0).val / 512, hN⟩).view.emb_mem_set y
    have e : ((cfg1.win 1).blk ⟨(i 0).val / 512, hN⟩).view.emb y = i := by
      funext a
      apply Fin.ext
      refine (Pipeline.Window.rect_emb_val (cfg1.win 1) ⟨(i 0).val / 512, hN⟩ y a rfl).trans ?_
      fin_cases a
      · show (BitVec.ofNat 32 ((grid1.coords ⟨(i 0).val / 512, hN⟩) 0).val).toNat * 512 + (i 0).val % 512 = (i 0).val
        have hc : ((grid1.coords ⟨(i 0).val / 512, hN⟩) 0).val = (i 0).val / 512 := by
          show ((i 0).val / 512) / 1 % 32 = _
          omega
        rw [hc, BitVec.toNat_ofNat]
        omega
      · show (0#32).toNat * 2048 + (i 1).val = (i 1).val
        simp
    rw [e] at hm; exact hm

variable (Vp : (c : Dev nD) → (b : Ref sig .tc) → Buf (Elt F) ((c : Thread nD τ).loc b))

set_option backward.isDefEq.respectTransparency.types false in
/-- The dense region as a step: its operand's array kept, its result's at what the pipeline wrote back. -/
def reg1 (hout : ∀ c, Vp c main_v5 = (dat1 V c).arrAt 1 cfg1.N) (hne : ∀ c (b : Ref sig .tc), b ≠ main_v5 → Vp c b = V c b) :
    Pipeline.RegionSeg (pcfgs (F := F)) adm (pdats1 V adm) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ owed0 c)
  post c := iprop(unscopedBufs c (Vp c) ∗ owed0 c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V adm) launch1.win launch1.arr_whole c
      ((pdats1 V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · icases HO with ⟨%W, %hW, HO⟩
      iexists W; isplitr
      · ipureintro; exact fun p hp => Or.inl (hW p hp)
      iexact HO
    isplitr; · iempintro
    iexact Hrest
  hin c := by
    rw [show (pdats1 V adm 0 c).Φ 0 = rest1 c from rfl]
    iintro ⟨-, -, Hr⟩; iexact Hr
  hout c := by
    rw [Pipeline.ownSems0_none, show (pdats1 V adm 0 c).Φ (Fin.last _) = rest1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats1 V adm) ((pdats1 V adm 0 c).share_full fun _ => rfl) (V c) (Vp c) ((pdats1 V adm 0 c).arrAt · cfg1.N)
      (fun w => by
        fin_cases w
        · exact ((pdats1 V adm 0 c).arrAt_in 0 rfl _).trans (hne c main_v0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    icases HO with ⟨%W, %hW, HO⟩
    iexists W; isplitr
    · ipureintro
      intro p hp
      rcases hW hp with h | h
      · exact h
      · obtain ⟨w, k, rfl⟩ := h
        exact Nat.zero_le _
    iexact HO

/-! ## The second dense region -/

abbrev rest2 (c : Dev nD) : sProp 𝕄 := Pipeline.scopedRest (Ix := HIx 1) (Name := ℕ) (U := UU) (Lvl := ℕ) (Val := Elt F) spec2 c

/-- The operand's only block. -/
abbrev blk2 (c : Dev nD) (t : Fin cfg2.N) : Vec F S2x2048x448 .i32 := ((cfg2.win 0).blk t).view.read (Elt F) (V c main_v4)

/-- The second dense region's one number, from the counts. -/
def finOut (x : Vec F S2x2048x448 .i32) : Vec F S1x1 .f32 := fun _ => k2_pay1 (k2_pay2 (F := F)) k2_pay3 (k2_pay4 x) (k2_pay5 x)

def dat2 (c : Dev nD) : Dat τ (Elt F) (HIx 1) ℕ UU ℕ cfg2 c where
  A w := V c (Pipeline.arrRef spec2 w)
  after w t := match w with
    | ⟨0, _⟩ => blk2 V c t
    | ⟨1, _⟩ => finOut (blk2 V c t)
  Φ _ := rest2 c
  q _ := fullShare
  owed _ := 0
  recorded _ := recd (F := F) c

/-- The operand's staging buffer holds its block when the body runs. -/
theorem before2 (c : Dev nD) (t : Fin cfg2.N) (d) : (dat2 V c).before 0 t d = blk2 V c t := by
  unfold Dat.before; rw [if_pos (fetch2_0 t)]; rfl

/-- The body obligation of the second dense region. -/
theorem body2 (c : Dev nD) : BodyObligation (dat2 V c) (defs₀ (F := F)) Variants.none none Set.univ := fun t => by
  obtain rfl := fin_N2 t
  rw [bigSep_W2, bigSep_W2]
  rw [show (dat2 V c).Φ t2_0.castSucc = rest2 c from rfl, show (dat2 V c).Φ t2_0.succ = rest2 c from rfl,
    show (dat2 V c).owesAt none t2_0.succ = (dat2 V c).owesAt none t2_0.castSucc from rfl]
  iintro ⟨HΦ, Howes, ⟨%d0, H0⟩, ⟨%d1, H1⟩⟩
  rw [before2]
  iapply (fin_run c _ (hstage2_0 0) _ (hstage2_1 0) (blk2 V c t2_0) ((dat2 V c).before 1 t2_0 d1) _)
  isplitl [H0]; · iexact H0
  isplitl [H1]; · iexact H1
  iintro ⟨H0, H1⟩
  isplitl [HΦ]; · iexact HΦ
  isplitl [Howes]; · iexact Howes
  isplitl [H0]; · iexact H0
  iexact H1

/-- The proof data while the second dense region runs. -/
def pdats2 : (p : Fin 2) → (c : Dev nD) → Dat τ (Elt F) (HIx 1) ℕ UU ℕ (Pipeline.pin (pcfgs (F := F)) adm p) c
  | ⟨0, _⟩ => fun c => idleDat c
  | ⟨1, _⟩ => fun c => dat2 V c

/-- The operand's only block is the operand. -/
theorem blk2_eq (c : Dev nD) (t : Fin cfg2.N) : blk2 V c t = V c main_v4 := by
  funext y
  show ((cfg2.win 0).blk t).view.read (Elt F) (V c main_v4) y = _
  rw [View.read_apply]
  show V c main_v4 (((cfg2.win 0).rect t).emb y) = V c main_v4 y
  congr 1
  funext a
  apply Fin.ext
  exact Pipeline.Window.rect_emb_val_of_index_zero (cfg2.win 0) t a rfl y

/-- What the second dense region leaves in its result's array. -/
theorem arr2 (c : Dev nD) : (dat2 V c).arrAt 1 cfg2.N = finOut (V c main_v4) := by
  refine (dat2 V c).arrAt_eq_of_cover 1 (finOut (V c main_v4)) ?_ ?_
  · intro t _
    funext y
    rw [View.read_apply]
    show finOut (blk2 V c t) y = finOut (V c main_v4) y
    rw [blk2_eq]
  · intro i
    refine ⟨t2_0, flush2_1 _, ?_⟩
    have hm := ((cfg2.win 1).blk t2_0).view.emb_mem_set (fun a => i a : S1x1.Idx)
    have e : ((cfg2.win 1).blk t2_0).view.emb (fun a => i a : S1x1.Idx) = i := by
      funext a
      apply Fin.ext
      exact Pipeline.Window.rect_emb_val_of_index_zero (cfg2.win 1) t2_0 a rfl (fun a => i a : S1x1.Idx)
    rw [e] at hm; exact hm

set_option backward.isDefEq.respectTransparency.types false in
/-- The second dense region as a step: its operand's array kept, its result's at what the pipeline wrote back. -/
def reg2 (hout : ∀ c, Vp c main_v6 = (dat2 V c).arrAt 1 cfg2.N) (hne : ∀ c (b : Ref sig .tc), b ≠ main_v6 → Vp c b = V c b) :
    Pipeline.RegionSeg (pcfgs (F := F)) adm (pdats2 V adm) none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ owed0 c)
  post c := iprop(unscopedBufs c (Vp c) ∗ owed0 c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V adm) launch2.win launch2.arr_whole c
      ((pdats2 V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · icases HO with ⟨%W, %hW, HO⟩
      iexists W; isplitr
      · ipureintro; exact fun p hp => Or.inl (hW p hp)
      iexact HO
    isplitr; · iempintro
    iexact Hrest
  hin c := by
    rw [show (pdats2 V adm 1 c).Φ 0 = rest2 c from rfl]
    iintro ⟨-, -, Hr⟩; iexact Hr
  hout c := by
    rw [Pipeline.ownSems0_none, show (pdats2 V adm 1 c).Φ (Fin.last _) = rest2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V adm) ((pdats2 V adm 1 c).share_full fun _ => rfl) (V c) (Vp c) ((pdats2 V adm 1 c).arrAt · cfg2.N)
      (fun w => by
        fin_cases w
        · exact ((pdats2 V adm 1 c).arrAt_in 0 rfl _).trans (hne c main_v4 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    icases HO with ⟨%W, %hW, HO⟩
    iexists W; isplitr
    · ipureintro
      intro p hp
      rcases hW hp with h | h
      · exact h
      · obtain ⟨w, k, rfl⟩ := h
        exact Nat.zero_le _
    iexact HO

end Cert.KernelIdeal.Proof
end
-- ==== Proof.LaunchIdeal.lean ====
/-
  The program's launch: what the SparseCore call hands out and takes back, the split over the vector subcores, the ghost state of the pipelines,
  @main on the TensorCore with every buffer's value, and the run.
-/
module

public import proofs.«01_k».proof.Proof.RegsIdeal

@[expose] public section

noncomputable section

namespace Cert.KernelIdeal.Proof

open Cert.KernelIdeal Cert.KernelIdeal.Gen Cert.Hist

open Idealize.ShloMosaic
open Idealize.ShloMosaic.SparseCore (S V T)
open Idealize.ShloMosaic.SparseCore.Cfg (HIx Pay)
open Idealize.ShloMosaic.StableHlo (held wp_hlo_within)
open Idealize.ShloMosaic.Transfers (shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What the call hands out -/

/-- The grid point of SparseCore `c`'s vector subcore `s`. -/
def crd (c : Fin (grid0.bound 0)) (s : Fin (grid0.bound 1)) : grid0.Coords :=
  fun | 0 => c | 1 => s | ⟨_ + 2, h⟩ => absurd h (Nat.not_lt.2 (Nat.le_add_left _ _))

/-- The result's words a subcore writes. -/
abbrev oSet (c : Fin 2) (i : Fin 16) : Finset S1839104.Idx := (oSl (crd c i)).view.set

theorem mem_oSet (c : Fin 2) (i : Fin 16) (x : S1839104.Idx) : x ∈ oSet c i ↔ (x 0).val / 57472 = 2 * i.val + c.val := by
  unfold oSet
  constructor
  · intro hx
    obtain ⟨y, -, rfl⟩ := Finset.mem_map.mp hx
    have hy : (y 0).val < 57472 := (y 0).isLt
    have e : (((oSl (crd c i)).view.emb y) 0).val = k0_off11 (crd c i) 0 + 1 * (y 0).val := rfl
    rw [e, k0_off11_eq]
    show (114944 * i.val + 57472 * c.val + 1 * (y 0).val) / 57472 = _
    omega
  · intro hx
    let y : S57472.Idx := fun | 0 => ⟨(x 0).val % 57472, Nat.mod_lt _ (show 0 < 57472 by decide)⟩
    refine Finset.mem_map.mpr ⟨y, Finset.mem_univ _, ?_⟩
    funext a
    obtain rfl : a = 0 := Subsingleton.elim _ _
    apply Fin.ext
    show k0_off11 (crd c i) 0 + 1 * ((x 0).val % 57472) = (x 0).val
    rw [k0_off11_eq]
    show (114944 * i.val + 57472 * c.val + 1 * ((x 0).val % 57472)) = _
    omega

theorem oSet_disjoint : ∀ p ∈ (Finset.univ ×ˢ Finset.univ : Finset (Fin 2 × Fin 16)), ∀ p' ∈ (Finset.univ ×ˢ Finset.univ : Finset (Fin 2 × Fin 16)), p ≠ p' →
    Disjoint (oSet p.1 p.2) (oSet p'.1 p'.2) := by
  intro p _ p' _ h
  refine Finset.disjoint_left.mpr fun x h1 h2 => h ?_
  rw [mem_oSet] at h1 h2
  refine Prod.ext (Fin.ext ?_) (Fin.ext ?_) <;> omega

theorem oSet_cover : (Finset.univ ×ˢ Finset.univ : Finset (Fin 2 × Fin 16)).biUnion (fun p => oSet p.1 p.2) = Finset.univ := by
  ext x
  simp only [Finset.mem_biUnion, Finset.mem_product, Finset.mem_univ, and_self, true_and, iff_true]
  have hx : (x 0).val < 1839104 := (x 0).isLt
  refine ⟨(⟨(x 0).val / 57472 % 2, by omega⟩, ⟨(x 0).val / 57472 / 2, by omega⟩), ?_⟩
  rw [mem_oSet]
  show _ = 2 * ((x 0).val / 57472 / 2) + (x 0).val / 57472 % 2
  omega

/-- The result's buffer is its thirty-two pieces. -/
theorem oPts_pieces (d : Dev nD) (f : Buf (Elt F) (oLoc d)) :
    (oLoc d ↦{fullShare} f : sProp 𝕄) = bigSep Finset.univ fun c : Fin 2 => bigSep Finset.univ fun i : Fin 16 => oLoc d ↦[oSet c i]{fullShare} f := by
  rw [← SparseCore.bigSep_product Finset.univ Finset.univ (fun p : Fin 2 × Fin 16 => (oLoc d ↦[oSet p.1 p.2]{fullShare} f : sProp 𝕄)),
    ← pointsTo_biUnion _ (ℓ := oLoc d) (fun p : Fin 2 × Fin 16 => oSet p.1 p.2) oSet_disjoint, oSet_cover]

/-- A SparseCore's share of the words, and a subcore's. -/
abbrev qc (c : Fin 2) : PosShare TreeShare := shareTok fullShare 2 c
abbrev qi (c : Fin 2) (i : Fin 16) : PosShare TreeShare := shareTok (qc c) 16 i

/-- What SparseCore `c` holds with the result's pieces at `f`. -/
abbrev scPts (d : Dev nD) (f : Buf (Elt F) (oLoc d)) (c : Fin 2) : sProp 𝕄 :=
  iprop((wLoc d ↦{qc c} m (wLoc d)) ∗ bigSep Finset.univ fun i : Fin 16 => oLoc d ↦[oSet c i]{fullShare} f)
/-- What its subcore `i` holds. -/
abbrev subPts (d : Dev nD) (f : Buf (Elt F) (oLoc d)) (c : Fin 2) (i : Fin 16) : sProp 𝕄 :=
  iprop((wLoc d ↦{qi c i} m (wLoc d)) ∗ oLoc d ↦[oSet c i]{fullShare} f)

variable [FloatOps F] [Named F]

def P : (K (F := F)).Pay (nD := nD) (Val := Elt F) (Name := ℕ) (U := UU) where
  st := fun q d c => match q with | 0 => scPts m d (m (oLoc d)) (Fin.cast nCore_zero c)
  dn := fun q d c => match q with | 0 => scPts m d (outC m d) (Fin.cast nCore_zero c)
  go := fun q d c i => match q with | 0 => subPts m d (m (oLoc d)) (Fin.cast nCore_zero c) (Fin.cast nSub_zero i)
  td := fun q d c i => match q with | 0 => subPts m d (outC m d) (Fin.cast nCore_zero c) (Fin.cast nSub_zero i)
  x := fun _ _ => iprop(emp)

instance P_storable : (P (F := F) m).IsStorable where
  st q d c := match q with | 0 => (inferInstance : BI.Storable (upEmb : UEmb _ 𝕄) (scPts m d (m (oLoc d)) (Fin.cast nCore_zero c)))
  dn q d c := match q with | 0 => (inferInstance : BI.Storable (upEmb : UEmb _ 𝕄) (scPts m d (outC m d) (Fin.cast nCore_zero c)))
  go q d c i := match q with | 0 => (inferInstance : BI.Storable (upEmb : UEmb _ 𝕄) (subPts m d (m (oLoc d)) (Fin.cast nCore_zero c) (Fin.cast nSub_zero i)))
  td q d c i := match q with | 0 => (inferInstance : BI.Storable (upEmb : UEmb _ 𝕄) (subPts m d (outC m d) (Fin.cast nCore_zero c) (Fin.cast nSub_zero i)))

/-! ## The subcores' obligation -/

abbrev D : Defs nD τ sig (Elt F) (ΛP (F := F)) := Pipeline.defs pcfgs defs₀

theorem defs₀_vector (c : Fin τ.nSC) (s : Fin τ.nSub) :
    defs₀ (F := F) (.scVector c s) 0 ()
      = SparseCore.onTile hcore0 hsub0 (fun c s => cc0__sc_hist_body (crd c s) wV (Memref.isWhole_whole _) oV (Memref.isWhole_whole _)
          sC (Memref.isWhole_whole _) sH (Memref.isWhole_whole _) cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every vector subcore's task, from its payload to the counts. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (crd ⟨_, hc.1⟩ ⟨_, hc.2⟩) hF (qi (Fin.cast nCore_zero c) (Fin.cast nSub_zero i)) (m (oLoc d)) O W hO).trans (wp_mono frame _ _ fun _ => obl_post)

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore deals its payload to its subcores and joins what they return. -/
theorem vecSplit : (K (F := F)).VecSplit' (P m) 0 := by
  intro d c
  show scPts m d (m (oLoc d)) (Fin.cast nCore_zero c) ⊢ |={Set.univ}=> iprop(
      (bigSep Finset.univ fun i : Fin ((K (F := F)).nSub 0) => subPts m d (m (oLoc d)) (Fin.cast nCore_zero c) (Fin.cast nSub_zero i))
      ∗ ((bigSep Finset.univ fun i : Fin ((K (F := F)).nSub 0) => subPts m d (outC m d) (Fin.cast nCore_zero c) (Fin.cast nSub_zero i))
          -∗ scPts m d (outC m d) (Fin.cast nCore_zero c)))
  generalize Fin.cast nCore_zero c = c
  rw [bigSep_tasks (F := F) (fun i => subPts m d (m (oLoc d)) c i), bigSep_tasks (F := F) (fun i => subPts m d (outC m d) c i), bigSep_sep', bigSep_sep']
  iintro ⟨Hw, Ho⟩
  ihave H := (pointsTo_toks_split (qc c) 16) $$ Hw
  icases H with ⟨Hd, Hw⟩
  imodintro
  isplitl [Hw Ho]
  · isplitl [Hw] <;> iassumption
  iintro ⟨Hw, Ho⟩
  isplitl [Hd Hw]
  · iapply (pointsTo_toks_join (qc c) 16)
    isplitl [Hd] <;> iassumption
  iexact Ho

/-! ## The launch's ghost state -/

abbrev adm : (p : Fin 2) → (pcfgs (F := F) p).Adm := fun p => (cfgs p).toPCfg_adm

/-- The pipelines' launch element. -/
abbrev pipe₀ : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (pipe₀ (F := F), 1))

/-- What a device's TensorCore starts with for its two pipelines. -/
abbrev G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem Px (thr : Thread nD τ) : (bigSep Finset.univ fun q : Fin 1 => (P (F := F) m).x q thr) = iprop(emp) :=
  bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HK⟩
  ihave H := (own_pair_emb embR _ _) $$ HK
  icases H with ⟨HP, -⟩
  have hfund : (BI.own (((Emb.inl : Emb UP (UP × Counters)).trans (embR : Emb (UP × Counters) (MT nD τ sig (HIx 1) (Elt F) ℕ UU ℕ))) (pipe₀ (F := F))) : sProp 𝕄) ⊢ _ :=
    Pipeline.fund_ghost (Pipeline.pin (pcfgs (F := F)) adm) EP cellOf_inj
  imod hfund $$ HP with ⟨Hg, Ht⟩
  imodintro
  isplitl [HH]; · iexact HH
  isplitl [Hg Ht]
  · rw [bigSep_sep']; isplitl [Hg] <;> iassumption
  simp only [Px]
  rw [show (bigSep Finset.univ fun _ : Thread nD τ => (iprop(emp) : sProp 𝕄)) = iprop(emp) from bigSep_emp_const _]
  iempintro

/-! ## The TensorCore's arrays -/

/-- A buffer of the TensorCore, as the device names it. -/
abbrev dr (b : Ref sig .tc) : DevRef τ sig := Proc.devRef .tc b

/-- The TensorCore's unscoped buffers. -/
def ucRefs : Finset (DevRef τ sig) := (StableHlo.tcRefs τ sig).filter fun b => ¬ b.isScoped

omit [FloatOps F] [Named F] in
theorem unscoped_held (d : Dev nD) (W : Valuation τ sig (Elt F)) :
    (unscopedBufs d (fun b => W (dr b)) : sProp 𝕄) = held (T d) ucRefs W := by
  unfold unscopedBufs held ucRefs StableHlo.tcRefs
  rw [Finset.filter_map, bigSep_map]; rfl

abbrev opBits : HloOp τ sig (Elt F) := StableHlo.unary main_arg0 main_v0 (bitcastToFloat .f32 : (⟨S16384x2048, .i32⟩ : BufTy).Contents (Elt F) → (⟨S16384x2048, .f32⟩ : BufTy).Contents (Elt F))
abbrev opCells : HloOp τ sig (Elt F) := StableHlo.reshape main_v1 main_v2 (rfl : (.i32 : EltTy) = .i32) shapeCasts_S1839104_S2x16x128x449
abbrev opSlice : HloOp τ sig (Elt F) := StableHlo.unary main_v2 main_v3 ((extractStridedSlice S2x16x128x448 ![0, 0, 0, 0] · slices_S2x16x128x449_S2x16x128x448_0_0_0_0) : (⟨S2x16x128x449, .i32⟩ : BufTy).Contents (Elt F) → (⟨S2x16x128x448, .i32⟩ : BufTy).Contents (Elt F))
abbrev opRows : HloOp τ sig (Elt F) := StableHlo.reshape main_v3 main_v4 (rfl : (.i32 : EltTy) = .i32) shapeCasts_S2x16x128x448_S2x2048x448
abbrev opScal : HloOp τ sig (Elt F) := StableHlo.reshape main_v6 main_v7 (rfl : (.f32 : EltTy) = .f32) shapeCasts_S1x1_S_

/-- The buffers' values along @main. -/
def W0 (d : Dev nD) : Valuation τ sig (Elt F) := fun b => m (d, b)
def W1 (d : Dev nD) : Valuation τ sig (Elt F) := opBits.result (W0 m d)
def W2 (d : Dev nD) : Valuation τ sig (Elt F) := Function.update (W1 m d) (dr main_v1) (outC m d)
def W3 (d : Dev nD) : Valuation τ sig (Elt F) := opCells.result (W2 m d)
def W4 (d : Dev nD) : Valuation τ sig (Elt F) := opSlice.result (W3 m d)
def W5 (d : Dev nD) : Valuation τ sig (Elt F) := opRows.result (W4 m d)
def W6 (d : Dev nD) : Valuation τ sig (Elt F) := Function.update (W5 m d) (dr main_v5) (tanhOut (W5 m d (dr main_v0)))
def W7 (d : Dev nD) : Valuation τ sig (Elt F) := Function.update (W6 m d) (dr main_v6) (finOut (W6 m d (dr main_v4)))
def W8 (d : Dev nD) : Valuation τ sig (Elt F) := opScal.result (W7 m d)

theorem W1_arg (d : Dev nD) : W1 m d (dr main_arg0) = m (wLoc d) :=
  opBits.result_of_not_mem (W0 m d) (b := dr main_arg0) (show dr main_arg0 ∉ ({dr main_v0} : Finset (DevRef τ sig)) by decide)
theorem W1_out (d : Dev nD) : W1 m d (dr main_v1) = m (oLoc d) :=
  opBits.result_of_not_mem (W0 m d) (b := dr main_v1) (show dr main_v1 ∉ ({dr main_v0} : Finset (DevRef τ sig)) by decide)

theorem hBits : (opBits (F := F)).bufs ⊆ ucRefs := show ({dr main_arg0, dr main_v0} : Finset (DevRef τ sig)) ⊆ ucRefs by decide
theorem hCells : (opCells (F := F)).bufs ⊆ ucRefs := show ({dr main_v1, dr main_v2} : Finset (DevRef τ sig)) ⊆ ucRefs by decide
theorem hSlice : (opSlice (F := F)).bufs ⊆ ucRefs := show ({dr main_v2, dr main_v3} : Finset (DevRef τ sig)) ⊆ ucRefs by decide
theorem hRows : (opRows (F := F)).bufs ⊆ ucRefs := show ({dr main_v3, dr main_v4} : Finset (DevRef τ sig)) ⊆ ucRefs by decide
theorem hScal : (opScal (F := F)).bufs ⊆ ucRefs := show ({dr main_v6, dr main_v7} : Finset (DevRef τ sig)) ⊆ ucRefs by decide

/-- The arrays but the call's two. -/
def restC : Finset (DevRef τ sig) := (ucRefs.erase (dr main_arg0)).erase (dr main_v1)

omit [FloatOps F] [Named F] in
theorem held_call (d : Dev nD) (W : Valuation τ sig (Elt F)) :
    (held (T d) ucRefs W : sProp 𝕄) = iprop((wLoc d ↦{fullShare} W (dr main_arg0)) ∗ (oLoc d ↦{fullShare} W (dr main_v1)) ∗ held (T d) restC W) := by
  unfold held restC
  rw [SparseCore.bigSep_erase' (show dr main_arg0 ∈ ucRefs by decide), SparseCore.bigSep_erase' (show dr main_v1 ∈ ucRefs.erase (dr main_arg0) by decide)]

theorem held_restC (d : Dev nD) : (held (T d) restC (W2 m d) : sProp 𝕄) = held (T d) restC (W1 m d) := by
  unfold held
  refine bigSep_congr fun b hb => ?_
  rw [show W2 m d b = W1 m d b from Function.update_of_ne (Finset.ne_of_mem_erase hb) _ _]

/-- What the call takes for the two SparseCores, and what it hands back. -/
theorem st0_eq (d : Dev nD) : (bigSep Finset.univ fun c : Fin ((K (F := F)).nCore 0) => (P m).st 0 d c)
    = iprop((bigSep Finset.univ fun c : Fin 2 => wLoc d ↦{qc c} m (wLoc d)) ∗ oLoc d ↦{fullShare} m (oLoc d)) := by
  rw [oPts_pieces, ← bigSep_sep']
  exact bigSep_cores (fun c => scPts m d (m (oLoc d)) c)
theorem dn0_eq (d : Dev nD) : (bigSep Finset.univ fun c : Fin ((K (F := F)).nCore 0) => (P m).dn 0 d c)
    = iprop((bigSep Finset.univ fun c : Fin 2 => wLoc d ↦{qc c} m (wLoc d)) ∗ oLoc d ↦{fullShare} outC m d) := by
  rw [oPts_pieces, ← bigSep_sep']
  exact bigSep_cores (fun c => scPts m d (outC m d) c)

/-! ## The dense calls -/

theorem W6_out (d : Dev nD) : W6 m d (dr main_v5) = tanhOut (W5 m d (dr main_v0)) := Function.update_self _ _ _
theorem W6_ne (d : Dev nD) (b : Ref sig .tc) (h : b ≠ main_v5) : W6 m d (dr b) = W5 m d (dr b) :=
  Function.update_of_ne (fun e => h (Proc.devRef_injective .tc e)) _ _
theorem W7_out (d : Dev nD) : W7 m d (dr main_v6) = finOut (W6 m d (dr main_v4)) := Function.update_self _ _ _
theorem W7_ne (d : Dev nD) (b : Ref sig .tc) (h : b ≠ main_v6) : W7 m d (dr b) = W6 m d (dr b) :=
  Function.update_of_ne (fun e => h (Proc.devRef_injective .tc e)) _ _

/-- A dense call in the launch's body table is the call in the pipelines' own. -/
theorem wp_dense (p : Fin 2) (d : Dev nD) (Q : PUnit → sProp 𝕄) :
    wp frame (wpE (D (F := F)) 𝒱 (T d) none) Set.univ
        (.op (.customCall (Pipeline.entry p) ()) fun _ => .ret ⟨⟩ : Prog (TpuEff nD τ sig (Elt F) (ΛP (F := F)) .tc) PUnit) Q
      ⊢ wp frame (wpE ((K (F := F)).defs (D (F := F))) 𝒱 (T d) none) Set.univ (Prog.lift (.customCall (SparseCore.inner (Pipeline.entry p)) ())) Q :=
  (K (F := F)).wp_liftProg (D (F := F)) 𝒱 (T d) Set.univ none
    (.op (.customCall (Pipeline.entry p) ()) fun _ => .ret ⟨⟩ : Prog (TpuEff nD τ sig (Elt F) (ΛP (F := F)) .tc) PUnit) Q

/-- A dense call's step, from its region. -/
theorem wp_region [∀ e, Nonempty (Elt F e)] (p : Fin 2) (pdats : (p : Fin 2) → (c : Dev nD) → Pipeline.Dat τ (Elt F) (HIx 1) ℕ UU ℕ (Pipeline.pin (pcfgs (F := F)) adm p) c)
    (R : Pipeline.RegionSeg (pcfgs (F := F)) adm pdats none defs₀ Variants.none (K (F := F)).L (K (F := F)).lev p) (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ (wp frame (wpE ((K (F := F)).defs (D (F := F))) 𝒱 (T d) none) Set.univ (Prog.lift (.customCall (SparseCore.inner (Pipeline.entry p)) ())) Q : sProp 𝕄) := by
  refine BI.Entails.trans ?_ (wp_dense p d _)
  have h := Pipeline.RegionSeg.wp (pcfgs (F := F)) adm pdats none cellOf_inj EP defs₀ Variants.none (K (F := F)).L (K (F := F)).lev R d none (fun _ h => nomatch h)
    (fun _ => (.ret ⟨⟩ : Prog (TpuEff nD τ sig (Elt F) (ΛP (F := F)) .tc) PUnit)) Q
  refine (?_ : (_ : sProp 𝕄) ⊢ _).trans h
  iintro ⟨HQ, Hb, Hp, Hl, Hg, Ht⟩
  isplitl [HQ]
  · iintro H
    rw [wp_ret]; imodintro
    iapply HQ; iexact H
  isplitl [Hb]; · iexact Hb
  isplitl [Hp]; · iexact Hp
  isplitl [Hl]; · iexact Hl
  isplitl [Hg]; · iexact Hg
  iexact Ht

/-- The regions at @main's values. -/
def R1 := reg1 (F := F) (fun c b => W5 m c (dr b)) adm (fun c b => W6 m c (dr b))
    (fun c => (W6_out m c).trans (arr1 (fun c b => W5 m c (dr b)) c).symm) (fun c b hb => W6_ne m c b hb)
def R2 := reg2 (F := F) (fun c b => W6 m c (dr b)) adm (fun c b => W7 m c (dr b))
    (fun c => (W7_out m c).trans (arr2 (fun c b => W6 m c (dr b)) c).symm) (fun c b hb => W7_ne m c b hb)

theorem R1_pre (d : Dev nD) : (R1 (F := F) m).pre d = iprop(held (T d) ucRefs (W5 m d) ∗ owed0 (F := F) d) := by
  rw [← unscoped_held]; rfl
theorem R1_post (d : Dev nD) : (R1 (F := F) m).post d = iprop(held (T d) ucRefs (W6 m d) ∗ owed0 (F := F) d) := by
  rw [← unscoped_held]; rfl
theorem R2_pre (d : Dev nD) : (R2 (F := F) m).pre d = iprop(held (T d) ucRefs (W6 m d) ∗ owed0 (F := F) d) := by
  rw [← unscoped_held]; rfl
theorem R2_post (d : Dev nD) : (R2 (F := F) m).post d = iprop(held (T d) ucRefs (W7 m d) ∗ owed0 (F := F) d) := by
  rw [← unscoped_held]; rfl

/-! ## @main on the TensorCore -/

variable (ρ : Dev nD → PrngReg)

/-- The buffers the claim reads, at @main's last values. -/
abbrev FIN (d : Dev nD) : sProp 𝕄 := held (T d) ucRefs (W8 m d)

/-- @main on device `d`'s TensorCore: the words as floats; the counts, from the SparseCores; their cells, as rows; the two dense calls; the scalar. -/
theorem hmain [∀ e, Nonempty (Elt F e)] (κ : GSem nD τ sig → ℕ) (d : Dev nD) :
    iprop((K (F := F)).ctx EH (P m) κ (K (F := F)).lev ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (W0 m d) from unscoped_held d (W0 m d)]
  rw [show (G (F := F) d : sProp 𝕄) = iprop(((Pipeline.cellsGhost (Pipeline.pin (pcfgs (F := F)) adm) EP 0 d) ∗ Pipeline.cellsGhost (Pipeline.pin (pcfgs (F := F)) adm) EP 1 d)
    ∗ (Pipeline.toksInit (Pipeline.pin (pcfgs (F := F)) adm) EP 0 d) ∗ Pipeline.toksInit (Pipeline.pin (pcfgs (F := F)) adm) EP 1 d) from by
      rw [G, show (Finset.univ : Finset (Fin 2)) = {0, 1} by decide, SparseCore.bigSep_insert' (by decide), bigSep_singleton, SparseCore.bigSep_insert' (by decide), bigSep_singleton]]
  simp only [main, wp_bind, wp_pure]
  iintro ⟨#Hctx, Hst, ⟨Hb, Hh, Hts, -⟩, ⟨Hg0, Hg1⟩, Ht0, Ht1⟩
  iapply (wp_hlo_within 𝒱 (SparseCore.T d) none Set.univ (op := opBits) (S := ucRefs) hBits (V := W0 m d)) $$ [Hb Hh]
  · isplitl [Hb] <;> iassumption
  iintro ⟨Hb, Hh⟩
  rw [show opBits.result (W0 m d) = W1 m d from rfl]
  rw [wp_ret]; imodintro
  ihave H := (Entails.of_eq ((held_call (F := F) d (W1 m d)).trans (by rw [W1_arg, W1_out]))) $$ Hh
  icases H with ⟨Hw, Ho, Hr⟩
  ihave H := (pointsTo_toks_split fullShare 2) $$ Hw
  icases H with ⟨Hwd, Hw⟩
  iapply ((K (F := F)).wp_run (D (F := F)) 𝒱 (EH := EH) (P := P m) κ d 0)
  isplitr; · iexact Hctx
  isplitl [Hst]; · iexact Hst
  isplitl [Hw Ho]
  · rw [st0_eq]
    isplitl [Hw] <;> iassumption
  iintro ⟨Hst, Hdn⟩
  ihave Hdn' := (Entails.of_eq (dn0_eq m d)) $$ Hdn
  icases Hdn' with ⟨Hw, Ho⟩
  ihave Hw := (pointsTo_toks_join fullShare 2) $$ [Hwd Hw]
  · isplitl [Hwd] <;> iassumption
  ihave Hh : (held (T d) ucRefs (W2 m d) : sProp 𝕄) $$ [Hw Ho Hr]
  · rw [held_call, held_restC, show W2 m d (dr main_v1) = outC m d from Function.update_self _ _ _,
      show W2 m d (dr main_arg0) = m (wLoc d) from (Function.update_of_ne (show dr main_arg0 ≠ dr main_v1 by decide) _ _).trans (W1_arg m d)]
    isplitl [Hw]; · iexact Hw
    isplitl [Ho]; · iexact Ho
    iexact Hr
  iapply (wp_hlo_within 𝒱 (SparseCore.T d) none Set.univ (op := opCells) (S := ucRefs) hCells (V := W2 m d)) $$ [Hb Hh]
  · isplitl [Hb] <;> iassumption
  iintro ⟨Hb, Hh⟩
  rw [show opCells.result (W2 m d) = W3 m d from rfl]
  rw [wp_ret]; imodintro
  iapply (wp_hlo_within 𝒱 (SparseCore.T d) none Set.univ (op := opSlice) (S := ucRefs) hSlice (V := W3 m d)) $$ [Hb Hh]
  · isplitl [Hb] <;> iassumption
  iintro ⟨Hb, Hh⟩
  rw [show opSlice.result (W3 m d) = W4 m d from rfl]
  rw [wp_ret]; imodintro
  iapply (wp_hlo_within 𝒱 (SparseCore.T d) none Set.univ (op := opRows) (S := ucRefs) hRows (V := W4 m d)) $$ [Hb Hh]
  · isplitl [Hb] <;> iassumption
  iintro ⟨Hb, Hh⟩
  rw [show opRows.result (W4 m d) = W5 m d from rfl]
  rw [wp_ret]; imodintro
  ihave #Hlev := ((K (F := F)).ctx_levAts (EH := EH) (P := P m) κ) $$ Hctx
  unfold SparseCore.Cfg.tcSt
  icases Hst with ⟨⟨%W, %hW, Howes⟩, Hst⟩
  rw [(K (F := F)).Otc_end d (show 1 ≤ 1 from le_rfl), (K (F := F)).Otc_end d (show 1 ≤ ((0 : Fin 1).val + 1) from le_rfl)]
  iapply (wp_region 0 _ (R1 m) d _)
  rw [R1_pre, R1_post]
  isplitr [Hb Hh Howes Hg0 Ht0]
  rotate_left
  · isplitl [Hb]; · iexact Hb
    isplitl [Hh Howes]
    · isplitl [Hh]; · iexact Hh
      iexists W; isplitr; · ipureintro; exact hW
      iexact Howes
    isplitr; · iexact Hlev
    isplitl [Hg0]; · iexact Hg0
    iexact Ht0
  iintro ⟨Hb, Hh, Howes⟩
  iapply (wp_region 1 _ (R2 m) d _)
  rw [R2_pre, R2_post]
  isplitr [Hb Hh Howes Hg1 Ht1]
  rotate_left
  · isplitl [Hb]; · iexact Hb
    isplitl [Hh Howes]
    · isplitl [Hh]; · iexact Hh
      iexact Howes
    isplitr; · iexact Hlev
    isplitl [Hg1]; · iexact Hg1
    iexact Ht1
  iintro ⟨Hb, Hh, Howes⟩
  iapply (wp_hlo_within 𝒱 (SparseCore.T d) none Set.univ (op := opScal) (S := ucRefs) hScal (V := W7 m d)) $$ [Hb Hh]
  · isplitl [Hb] <;> iassumption
  iintro ⟨Hb, Hh⟩
  rw [show opScal.result (W7 m d) = W8 m d from rfl]
  rw [wp_ret]; imodintro; imodintro
  isplitl [Hst Howes]
  · isplitl [Howes]; · iexact Howes
    iexact Hst
  isplitl [Hh]; · iexact Hh
  isplitl [Hb] <;> iassumption

/-! ## The run -/

/-- What the claim reads of the final memory. -/
def fq (d : Dev nD) (s' : Phys nD τ sig (Elt F)) : Prop :=
  s'.mem.mem (d, dr main_arg0) = W8 m d (dr main_arg0) ∧ s'.mem.mem (d, dr main_v5) = W8 m d (dr main_v5) ∧ s'.mem.mem (d, dr main_v7) = W8 m d (dr main_v7)

omit [FloatOps F] [Named F] in
/-- A held buffer's final contents. -/
theorem held_read (d : Dev nD) (W : Valuation τ sig (Elt F)) (b : DevRef τ sig) (hb : b ∈ ucRefs) (s' : Phys nD τ sig (Elt F)) :
    iprop(held (T d) ucRefs W ∗ SI s') ⊢ (⌜s'.mem.mem (d, b) = W b⌝ : sProp 𝕄) := by
  unfold held
  rw [SparseCore.bigSep_erase' hb]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  iintro H
  ihave H := (persistent_entails_right (held_read (F := F) d (W8 m d) (dr main_arg0) (by decide) s')) $$ H
  icases H with ⟨%h1, H⟩
  ihave H := (persistent_entails_right (held_read (F := F) d (W8 m d) (dr main_v5) (by decide) s')) $$ H
  icases H with ⟨%h2, H⟩
  ihave H := (held_read (F := F) d (W8 m d) (dr main_v7) (by decide) s') $$ H
  icases H with %h3
  ipureintro; exact ⟨h1, h2, h3⟩

/-- The counts as the second dense call reads them: each half's cells by column, the last of a column's 449 left out. -/
def rowsOf (v : Vec F S1839104 .i32) : Vec F S2x2048x448 .i32 :=
  shapeCast S2x2048x448 (extractStridedSlice S2x16x128x448 ![0, 0, 0, 0] (shapeCast S2x16x128x449 v shapeCasts_S1839104_S2x16x128x449) slices_S2x16x128x449_S2x16x128x448_0_0_0_0)
    shapeCasts_S2x16x128x448_S2x2048x448

/-- The first result, from the words. -/
def res1 (w : Vec F S16384x2048 .i32) : FVec F S16384x2048 .f32 := tanhOut (bitcastToFloat .f32 w)
/-- The second. -/
def res2 (w : Vec F S16384x2048 .i32) : FVec F S_ .f32 := shapeCast S_ (finOut (rowsOf (F := F) fun j => histAt w (j 0).val)) shapeCasts_S1x1_S_

theorem W2_ne (d : Dev nD) (b : Ref sig .tc) (h : b ≠ main_v1) : W2 m d (dr b) = W1 m d (dr b) :=
  Function.update_of_ne (fun e => h (Proc.devRef_injective .tc e)) _ _

theorem W8_ne (d : Dev nD) (b : Ref sig .tc) (h : b ≠ main_v7) : W8 m d (dr b) = W7 m d (dr b) :=
  StableHlo.result_of_writes_ne opScal (W7 m d) main_v7 b rfl h
theorem W5_ne (d : Dev nD) (b : Ref sig .tc) (h : b ≠ main_v4) : W5 m d (dr b) = W4 m d (dr b) :=
  StableHlo.result_of_writes_ne opRows (W4 m d) main_v4 b rfl h
theorem W4_ne (d : Dev nD) (b : Ref sig .tc) (h : b ≠ main_v3) : W4 m d (dr b) = W3 m d (dr b) :=
  StableHlo.result_of_writes_ne opSlice (W3 m d) main_v3 b rfl h
theorem W3_ne (d : Dev nD) (b : Ref sig .tc) (h : b ≠ main_v2) : W3 m d (dr b) = W2 m d (dr b) :=
  StableHlo.result_of_writes_ne opCells (W2 m d) main_v2 b rfl h

/-- The words are as at the launch at the end. -/
theorem W8_arg (d : Dev nD) : W8 m d (dr main_arg0) = m (wLoc d) := by
  rw [W8_ne _ _ _ (by decide), W7_ne _ _ _ (by decide), W6_ne _ _ _ (by decide), W5_ne _ _ _ (by decide), W4_ne _ _ _ (by decide), W3_ne _ _ _ (by decide),
    W2_ne _ _ _ (by decide), W1_arg]

theorem W5_v0 (d : Dev nD) : W5 m d (dr main_v0) = bitcastToFloat .f32 (words m d) := by
  rw [W5_ne _ _ _ (by decide), W4_ne _ _ _ (by decide), W3_ne _ _ _ (by decide), W2_ne _ _ _ (by decide)]
  exact StableHlo.unary_result _ _ _ _ _ _

theorem W8_v5 (d : Dev nD) : W8 m d (dr main_v5) = res1 (words m d) := by
  rw [W8_ne _ _ _ (by decide), W7_ne _ _ _ (by decide), W6_out, W5_v0]
  rfl

theorem W3_v2 (d : Dev nD) : W3 m d (dr main_v2) = shapeCast S2x16x128x449 (outC m d) shapeCasts_S1839104_S2x16x128x449 :=
  (StableHlo.reshape_result _ _ _ _ _ _ _).trans (by rw [show W2 m d (dr main_v1) = outC m d from Function.update_self _ _ _]; rfl)
theorem W4_v3 (d : Dev nD) : W4 m d (dr main_v3) = extractStridedSlice S2x16x128x448 ![0, 0, 0, 0] (W3 m d (dr main_v2)) slices_S2x16x128x449_S2x16x128x448_0_0_0_0 :=
  StableHlo.unary_result _ _ _ _ _ _

theorem W6_v4 (d : Dev nD) : W6 m d (dr main_v4) = rowsOf (outC m d) := by
  rw [W6_ne _ _ _ (by decide)]
  refine (StableHlo.reshape_result _ _ _ _ _ _ _).trans ?_
  rw [W4_v3, W3_v2]
  rfl

theorem W8_v7 (d : Dev nD) : W8 m d (dr main_v7) = res2 (words m d) := by
  refine (StableHlo.reshape_result _ _ _ _ _ _ _).trans ?_
  rw [W7_out, W6_v4]
  rfl

/-- What the launch leaves: the words unchanged, the two results, every counter at zero. -/
def QC : PUnit × MemSt nD τ sig (Elt F) → Prop := fun r =>
  (∀ d : Dev nD, r.2.mem ((d.tc : Thread nD τ).loc main_arg0) = m ((d.tc : Thread nD τ).loc main_arg0)
    ∧ r.2.mem ((d.tc : Thread nD τ).loc main_v5) = res1 (words m d) ∧ r.2.mem ((d.tc : Thread nD τ).loc main_v7) = res2 (words m d)) ∧ r.2.sem = fun _ => 0

/-- The whole program's run, with its results. -/
theorem run_main [∀ e, Nonempty (Elt F e)] (hF : (K (F := F)).Facts) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) hF v₀
    (fun q hq => match q with | 0 => nomatch hq)
    (fun q _ => match q with | 0 => tileObl m hF)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun _ h hz => ⟨fun d => ⟨(h d).1.trans (W8_arg m d), (h d).2.1.trans (W8_v5 m d), (h d).2.2.trans (W8_v7 m d)⟩, hz⟩)

end Cert.KernelIdeal.Proof
end
-- ==== Proof.Frames.lean ====
/-
  The claims but the value: the three frames (the runs, their values dropped) and the named constants.
-/
module

public import proofs.«01_k».proof.Defs
public import proofs.«01_k».proof.Proof.Launch
public import proofs.«01_k».proof.Proof.LaunchIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel (hKernel := Cert.Kernel.Gen.facts) := fun m g _ =>
  (θ_run Cert.Kernel.defs _ _).mono (fun _ h => ⟨fun c => (h.1 c).1, h.2⟩) (Cert.Kernel.Proof.run_main (F := Bits) m g Cert.Kernel.Proof.facts)

/-- The ideal kernel's frame. -/
theorem frame_pi : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.Proof.run_main (F := Ideal) m g Cert.KernelIdeal.Proof.facts)

/-- The reference's frame: it declares no semaphore. -/
theorem frame_ri : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The named constants are the reciprocals their names say. -/
theorem preserves : Cert.preserves_Kernel_KernelIdeal :=
  ⟨IdealRules.named_const.statement _ _ _ _ _ rfl, IdealRules.named_const.statement _ _ _ _ _ rfl⟩

end Cert.Proof

end
-- ==== Proof.Levels.lean ====
/-
  The 448 levels, about no program: the number a bin's centre word denotes, its base-ten logarithm, the levels'
  order, and their bounds 0 and 5.
-/
module

public import proofs.«01_k».proof.Proof.HistPure
public import Idealize.ShloMosaic.PureOps.Ideal
public import Idealize.ShloMosaic.PureOps.Ideal.Laws

@[expose] public section

noncomputable section

namespace Cert.Hist

open Idealize.ShloMosaic

/-- The centre word of bin `q`: the bin put back in the upper 14 bits, and half a bin below. -/
def word (q : ℕ) : BitVec 32 := BitVec.ofNat 32 ((q + 4064) * 2 ^ 18 + 131072)

/-- The number the centre word denotes: exponent `q / 32`, mantissa `q % 32` and a half. -/
def cen (q : ℕ) : ℝ := (65 + 2 * (q % 32 : ℕ)) / 64 * 2 ^ (q / 32)

/-- The constant that turns a natural logarithm into a base-ten one. -/
def lnC : ℝ := (Real.log 10)⁻¹

/-- The level of bin `q`: the base-ten logarithm of its centre. -/
def lev (q : ℕ) : ℝ := Real.log (cen q) * lnC

/-- A centre word denotes its centre. -/
theorem ofBits_word (q : ℕ) (hq : q < 448) : Ideal.ofBits .f32 (word q) = ((cen q : ℝ) : EReal) := by
  have hn : (word q).toNat = (q + 4064) * 2 ^ 18 + 131072 := by
    unfold word; rw [BitVec.toNat_ofNat]; omega
  have h1 : ((word q).extractLsb' (8 + 23) 1 == 1#1) = false := by
    have : (word q).extractLsb' (8 + 23) 1 = 0#1 := by
      apply BitVec.eq_of_toNat_eq
      rw [BitVec.extractLsb'_toNat, hn, Nat.shiftRight_eq_div_pow]
      simp only [BitVec.toNat_ofNat]; omega
    rw [this]; rfl
  have h2 : ((word q).extractLsb' 23 8).toNat = 127 + q / 32 := by
    rw [BitVec.extractLsb'_toNat, hn, Nat.shiftRight_eq_div_pow]; omega
  have h3 : ((word q).extractLsb' 0 23).toNat = (q % 32) * 2 ^ 18 + 131072 := by
    rw [BitVec.extractLsb'_toNat, hn, Nat.shiftRight_eq_div_pow]; omega
  have h4 : ∀ (e m : ℕ) (n : ℕ) (c : ℤ), ((word q).extractLsb' (e + m) 1 == 1#1) = false → ((word q).extractLsb' m e).toNat = n →
      ((word q).extractLsb' 0 m).toNat = (q % 32) * 2 ^ 18 + 131072 → n ≠ 2 ^ e - 1 → n ≠ 0 → (n : ℤ) - (2 ^ (e - 1) - 1) - m = c →
      Ideal.ieee e m (word q) = (((2 ^ m + ((q % 32) * 2 ^ 18 + 131072) : ℕ) * (2 : ℝ) ^ c : ℝ) : EReal) := by
    intro e m n c k1 k2 k3 k4 k5 k6
    unfold Ideal.ieee
    simp only [k1, k2, k3]
    rw [if_neg k4, if_neg k5, ← k6]
    simp
  refine (h4 8 23 _ (((q / 32 : ℕ) : ℤ) - 23) h1 h2 h3 (by omega) (by omega) (by push_cast; norm_num)).trans ?_
  refine congrArg (fun r : ℝ => (r : EReal)) ?_
  unfold cen
  rw [zpow_sub₀ (by norm_num), zpow_natCast]
  push_cast
  norm_num
  ring

/-- A centre is at least the power of two it starts from. -/
theorem le_cen (q : ℕ) : (2 : ℝ) ^ (q / 32) ≤ cen q := by
  unfold cen
  have h : (0 : ℝ) < 2 ^ (q / 32) := by positivity
  have : (0 : ℝ) ≤ ((q % 32 : ℕ) : ℝ) := by positivity
  nlinarith

/-- A centre is below the next power of two. -/
theorem cen_lt (q : ℕ) : cen q < 2 ^ (q / 32 + 1) := by
  unfold cen
  have h : (0 : ℝ) < 2 ^ (q / 32) := by positivity
  have : ((q % 32 : ℕ) : ℝ) ≤ 31 := by exact_mod_cast (by omega : q % 32 ≤ 31)
  rw [pow_succ]
  nlinarith

theorem one_le_cen (q : ℕ) : 1 ≤ cen q := (one_le_pow₀ (by norm_num)).trans (le_cen q)

/-- The centres rise. -/
theorem cen_strictMono : StrictMono cen := by
  intro a b hab
  rcases Nat.lt_or_ge (a / 32) (b / 32) with h | h
  · exact (cen_lt a).trans_le ((pow_le_pow_right₀ (by norm_num) h).trans (le_cen b))
  · have he : a / 32 = b / 32 := by omega
    have hm : a % 32 < b % 32 := by omega
    unfold cen
    rw [he]
    have h : (0 : ℝ) < 2 ^ (b / 32) := by positivity
    have : ((a % 32 : ℕ) : ℝ) < ((b % 32 : ℕ) : ℝ) := by exact_mod_cast hm
    nlinarith

theorem log_ten_pos : 0 < Real.log 10 := Real.log_pos (by norm_num)

theorem lnC_pos : 0 < lnC := inv_pos.mpr log_ten_pos

/-- The levels rise. -/
theorem lev_strictMono : StrictMono lev := fun a b hab =>
  mul_lt_mul_of_pos_right (Real.log_lt_log (lt_of_lt_of_le one_pos (one_le_cen a)) (cen_strictMono hab)) lnC_pos

/-- No level is negative. -/
theorem lev_nonneg (q : ℕ) : 0 ≤ lev q := mul_nonneg (Real.log_nonneg (one_le_cen q)) lnC_pos.le

/-- No level of the 448 is above 5: two to the fourteenth is below ten to the fifth. -/
theorem lev_le (q : ℕ) (hq : q < 448) : lev q ≤ 5 := by
  have h1 : cen q ≤ 10 ^ 5 := ((cen_lt q).le.trans (pow_le_pow_right₀ (by norm_num) (by omega : q / 32 + 1 ≤ 14))).trans (by norm_num)
  have h2 : Real.log (cen q) ≤ 5 * Real.log 10 := by
    have := Real.log_le_log (lt_of_lt_of_le one_pos (one_le_cen q)) h1
    rwa [Real.log_pow] at this
  calc lev q ≤ 5 * Real.log 10 * lnC := mul_le_mul_of_nonneg_right h2 lnC_pos.le
    _ = 5 := by unfold lnC; rw [mul_assoc, mul_inv_cancel₀ log_ten_pos.ne', mul_one]

/-- The word of ten. -/
theorem ofBits_ten : Ideal.ofBits .f32 0x41200000#32 = ((10 : ℝ) : EReal) := by
  simp [Ideal.ofBits, Ideal.ieee, -EReal.coe_mul]; norm_num

/-- The logarithm of a positive real is its real logarithm. -/
theorem log_coe (r : ℝ) (hr : 0 < r) : Ideal.log ((r : ℝ) : EReal) = ((Real.log r : ℝ) : EReal) := if_neg (not_le.mpr hr)

/-- To divide by the logarithm of ten is to multiply by the constant, for every extended real. -/
theorem div_ln10 (x : EReal) : Ideal.div x (Ideal.log (Ideal.ofBits .f32 0x41200000#32)) = x * ((lnC : ℝ) : EReal) := by
  rw [ofBits_ten, log_coe 10 (by norm_num), Ideal.div_coe log_ten_pos.ne', one_div]; rfl

/-- The logarithm of a centre word, scaled: the level. -/
theorem log_word (q : ℕ) (hq : q < 448) :
    Ideal.log (Ideal.ofBits .f32 (word q)) * ((lnC : ℝ) : EReal) = ((lev q : ℝ) : EReal) := by
  rw [ofBits_word q hq, log_coe _ (lt_of_lt_of_le one_pos (one_le_cen q)), ← EReal.coe_mul]; rfl

end Cert.Hist

end
-- ==== Proof.Sorted.lean ====
/-
  Sums over a sorted column by cumulative counts, about no program: a sum of levels over the lowest or the highest rows
  of a column is the levels' steps weighted by how many of those rows lie above each step.
-/
module

public import Mathlib.Data.Real.Basic
public import Mathlib.Data.Fintype.Card
public import Mathlib.Algebra.BigOperators.Fin
public import Mathlib.Algebra.Order.BigOperators.Group.Finset
public import Mathlib.Tactic.Linarith
public import Mathlib.Tactic.Ring

@[expose] public section

noncomputable section

namespace Cert.Hist

open Finset

/-- How many of a column's rows have a bin at most `j`. -/
def cum {n : ℕ} (f : Fin n → ℕ) (j : ℕ) : ℕ := (univ.filter fun r => f r ≤ j).card

theorem cum_le {n : ℕ} (f : Fin n → ℕ) (j : ℕ) : cum f j ≤ n := (card_filter_le _ _).trans (by simp)

/-- Rearranging the rows keeps the counts. -/
theorem cum_perm {n : ℕ} (f : Fin n → ℕ) (σ : Fin n → Fin n) (hσ : Function.Bijective σ) (j : ℕ) :
    cum (fun i => f (σ i)) j = cum f j := by
  unfold cum
  refine card_bij (fun i _ => σ i) (fun i hi => ?_) (fun a _ b _ h => hσ.1 h) fun b hb => ?_
  · simpa using hi
  · obtain ⟨a, rfl⟩ := hσ.2 b
    exact ⟨a, by simpa using hb, rfl⟩

/-- In a sorted column row `i` is at most `j` exactly when it is among the first `cum g j`. -/
theorem le_iff_lt_cum {n : ℕ} (g : Fin n → ℕ) (hg : ∀ a b, a < b → g a ≤ g b) (j : ℕ) (i : Fin n) :
    g i ≤ j ↔ i.val < cum g j := by
  have hg' : ∀ a b, a ≤ b → g a ≤ g b := fun a b h => (lt_or_eq_of_le h).elim (hg a b) fun e => by rw [e]
  constructor
  · intro h
    have hs : (univ.filter fun r : Fin n => r ≤ i) ⊆ univ.filter fun r => g r ≤ j := fun r hr => by
      simp only [mem_filter, mem_univ, true_and] at hr ⊢
      exact (hg' r i hr).trans h
    have hc := card_le_card hs
    have : (univ.filter fun r : Fin n => r ≤ i).card = i.val + 1 := by
      rw [show (univ.filter fun r : Fin n => r ≤ i) = Finset.Iic i from by ext; simp, Fin.card_Iic]
    unfold cum; omega
  · intro h
    by_contra hc
    have hs : (univ.filter fun r => g r ≤ j) ⊆ univ.filter fun r : Fin n => r < i := fun r hr => by
      simp only [mem_filter, mem_univ, true_and] at hr ⊢
      by_contra hri
      exact hc ((hg' i r (not_lt.mp hri)).trans hr)
    have hcard := card_le_card hs
    have : (univ.filter fun r : Fin n => r < i).card = i.val := by
      rw [show (univ.filter fun r : Fin n => r < i) = Finset.Iio i from by ext; simp, Fin.card_Iio]
    unfold cum at h; omega

/-- How many of `m` consecutive positions from `o` are at or past `c`. -/
theorem card_past (m o c : ℕ) : (univ.filter fun k : Fin m => ¬ o + k.val < c).card = m - (c - o) := by
  have h := Fin.card_filter_val_lt (n := m) (m := c - o)
  have h2 := card_filter_add_card_filter_not (s := (univ : Finset (Fin m))) fun k => o + k.val < c
  have h3 : (univ.filter fun k : Fin m => o + k.val < c) = univ.filter fun k : Fin m => k.val < c - o := by
    ext k; simp only [mem_filter, mem_univ, true_and]; omega
  rw [h3, h] at h2
  simp only [card_univ, Fintype.card_fin] at h2
  omega

/-- A level is the lowest level and the steps below it. -/
theorem level_eq (L : ℕ → ℝ) (q : ℕ) : ∀ n, q ≤ n → L q = L 0 + ∑ j ∈ range n, (L (j + 1) - L j) * (if j < q then 1 else 0) := by
  intro n hn
  have h1 : ∑ j ∈ range n, (L (j + 1) - L j) * (if j < q then (1 : ℝ) else 0) = ∑ j ∈ range q, (L (j + 1) - L j) := by
    rw [← sum_subset (s₁ := range q) (s₂ := range n)]
    · exact sum_congr rfl fun j hj => by rw [if_pos (mem_range.mp hj), mul_one]
    · exact fun j hj => mem_range.mpr ((mem_range.mp hj).trans_le hn)
    · intro j _ hj; rw [if_neg fun h => hj (mem_range.mpr h), mul_zero]
  rw [h1, sum_range_sub]; ring

/-- The sum of the levels of `m` rows from row `o` of a sorted column. -/
theorem sum_levels {n : ℕ} (L : ℕ → ℝ) (g : Fin n → ℕ) (hg : ∀ a b, a < b → g a ≤ g b) (hb : ∀ i, g i ≤ 447) (m o : ℕ) (h : ∀ k : Fin m, o + k.val < n) :
    ∑ k : Fin m, L (g ⟨o + k.val, h k⟩)
      = m * L 0 + ∑ j : Fin 447, (L (j.val + 1) - L j.val) * ((m - (cum g j.val - o) : ℕ) : ℝ) := by
  have h1 : ∀ k : Fin m, L (g ⟨o + k.val, h k⟩) = L 0 + ∑ j : Fin 447, (L (j.val + 1) - L j.val) * (if ¬ o + k.val < cum g j.val then 1 else 0) := by
    intro k
    rw [level_eq L _ 447 (hb _), ← Fin.sum_univ_eq_sum_range (fun j => (L (j + 1) - L j) * (if j < g ⟨o + k.val, h k⟩ then (1 : ℝ) else 0)) 447]
    congr 1
    refine sum_congr rfl fun j _ => ?_
    congr 1
    have := le_iff_lt_cum g hg j.val ⟨o + k.val, h k⟩
    simp only at this
    by_cases hj : j.val < g ⟨o + k.val, h k⟩
    · rw [if_pos hj, if_pos (fun hc => absurd (this.mpr hc) (by omega))]
    · rw [if_neg hj, if_neg (fun hc => hc (this.mp (by omega)))]
  rw [sum_congr rfl fun k _ => h1 k, sum_add_distrib, sum_comm]
  congr 1
  · simp
  · refine sum_congr rfl fun j _ => ?_
    rw [← mul_sum, ← card_past m o (cum g j.val), Finset.sum_boole]

/-- The lowest 4096 of 16384 sorted rows. -/
theorem sum_low (L : ℕ → ℝ) (g : Fin 16384 → ℕ) (hg : ∀ a b, a < b → g a ≤ g b) (hb : ∀ i, g i ≤ 447) :
    ∑ k : Fin 4096, L (g ⟨k.val, by omega⟩)
      = 4096 * L 0 + ∑ j : Fin 447, (L (j.val + 1) - L j.val) * max (4096 - (cum g j.val : ℝ)) 0 := by
  have h := sum_levels L g hg hb 4096 0 (fun k => by omega)
  simp only [Nat.zero_add, Nat.sub_zero] at h
  rw [h]
  congr 1
  refine sum_congr rfl fun j _ => ?_
  congr 1
  rcases Nat.le_total (cum g j.val) 4096 with hc | hc
  · rw [Nat.cast_sub hc, max_eq_left]
    · norm_num
    · have : (cum g j.val : ℝ) ≤ 4096 := by exact_mod_cast hc
      linarith
  · rw [Nat.sub_eq_zero_of_le hc, max_eq_right]
    · simp
    · have : (4096 : ℝ) ≤ cum g j.val := by exact_mod_cast hc
      linarith

/-- The highest 1638 of 16384 sorted rows. -/
theorem sum_high (L : ℕ → ℝ) (g : Fin 16384 → ℕ) (hg : ∀ a b, a < b → g a ≤ g b) (hb : ∀ i, g i ≤ 447) :
    ∑ k : Fin 1638, L (g ⟨14746 + k.val, by omega⟩)
      = 1638 * L 0 + ∑ j : Fin 447, (L (j.val + 1) - L j.val) * min 1638 (16384 - (cum g j.val : ℝ)) := by
  rw [sum_levels L g hg hb 1638 14746 (fun k => by omega)]
  congr 1
  refine sum_congr rfl fun j _ => ?_
  congr 1
  have hn := cum_le g j.val
  rcases Nat.le_total (cum g j.val) 14746 with hc | hc
  · rw [Nat.sub_eq_zero_of_le hc, min_eq_left]
    · simp
    · have : (cum g j.val : ℝ) ≤ 14746 := by exact_mod_cast hc
      linarith
  · rw [show 1638 - (cum g j.val - 14746) = 16384 - cum g j.val by omega, Nat.cast_sub hn, min_eq_right]
    · norm_num
    · have : (14746 : ℝ) ≤ cum g j.val := by exact_mod_cast hc
      push_cast
      linarith

/-- A cumulative count is the sum of the bins' counts up to it. -/
theorem cum_eq_sum {n : ℕ} (f : Fin n → ℕ) (hf : ∀ r, f r < 448) (j : ℕ) :
    (cum f j : ℝ) = ∑ b : Fin 448, ((univ.filter fun r => f r = b.val).card : ℝ) * (if b.val ≤ j then 1 else 0) := by
  have h1 : ∀ b : Fin 448, ((univ.filter fun r => f r = b.val).card : ℝ) * (if b.val ≤ j then 1 else 0)
      = ∑ r : Fin n, if f r = b.val ∧ f r ≤ j then (1 : ℝ) else 0 := by
    intro b
    by_cases hb : b.val ≤ j
    · rw [if_pos hb, mul_one, ← Finset.sum_boole]
      refine sum_congr rfl fun r _ => ?_
      by_cases e : f r = b.val
      · rw [if_pos e, if_pos ⟨e, by omega⟩]
      · rw [if_neg e, if_neg fun h => e h.1]
    · rw [if_neg hb, mul_zero]
      refine (sum_eq_zero fun r _ => if_neg fun h => hb ?_).symm
      omega
  rw [sum_congr rfl fun b _ => h1 b, sum_comm]
  unfold cum
  rw [← Finset.sum_boole]
  refine sum_congr rfl fun r _ => ?_
  rw [sum_eq_single (⟨f r, hf r⟩ : Fin 448)]
  · by_cases h : f r ≤ j
    · rw [if_pos h, if_pos ⟨rfl, h⟩]
    · rw [if_neg h, if_neg fun h' => h h'.2]
  · intro b _ hb
    exact if_neg fun h => hb (Fin.ext h.1.symm)
  · intro h; exact absurd (mem_univ _) h

end Cert.Hist

end
-- ==== Proof.RefValue.lean ====
/-
  The reference's second result at the extended reals: the sort of each column is a rearrangement in rising order, and
  the two sums are sums of levels over its lowest and its highest rows.
-/
module

public import proofs.«01_k».proof.Proof.Levels
public import proofs.«01_k».proof.Proof.Sorted
public import proofs.«01_k».proof.Proof.Gen.ReferenceIdeal
public import Idealize.ShloMosaic.Lib.Pointwise
public import Idealize.ShloMosaic.Lib.SortFacts
public import Idealize.ShloMosaic.Lib.IdealHost

@[expose] public section

noncomputable section

namespace Cert.RefValue

open Cert.ReferenceIdeal Cert.ReferenceIdeal.Gen Cert.Hist Idealize.ShloMosaic

/-- A finite sum of reals is the sum of the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The smaller of two words does not depend on their order. -/
theorem minsi_swap (x y : BitVec 32) : IntOp.minsi x y = IntOp.minsi y x := by
  unfold IntOp.minsi
  by_cases h : x.slt y = true <;> by_cases h' : y.slt x = true
  · rw [BitVec.slt_iff_toInt_lt] at h h'; omega
  · rw [if_pos h, if_neg h']
  · rw [if_neg h, if_pos h']
  · rw [if_neg h, if_neg h']
    rw [BitVec.slt_iff_toInt_lt] at h h'
    exact BitVec.eq_of_toInt_eq (by omega)

/-- The larger of two words does not depend on their order. -/
theorem maxsi_swap (x y : BitVec 32) : IntOp.maxsi x y = IntOp.maxsi y x := by
  unfold IntOp.maxsi
  by_cases h : x.slt y = true <;> by_cases h' : y.slt x = true
  · rw [BitVec.slt_iff_toInt_lt] at h h'; omega
  · rw [if_pos h, if_neg h']
  · rw [if_neg h, if_pos h']
  · rw [if_neg h, if_neg h']
    rw [BitVec.slt_iff_toInt_lt] at h h'
    exact BitVec.eq_of_toInt_eq (by omega)

/-- A number below 448 put back in a word's upper bits, half a bin added: the centre word. -/
theorem word_eq (b : BitVec 32) (hb : b.toNat < 448) (u : ArithUnit) :
    IntOp.addi (IntOp.shli u (IntOp.addi b 4064#32) 18#32) 131072#32 = word b.toNat := by
  unfold IntOp.shli IntOp.addi word
  rw [if_pos (by decide)]
  apply BitVec.eq_of_toNat_eq
  rw [show (b + 4064#32) <<< 18#32 = (b + 4064#32) <<< (18 : ℕ) from rfl]
  simp only [BitVec.toNat_add, BitVec.toNat_shiftLeft, BitVec.toNat_ofNat, Nat.shiftLeft_eq]
  omega

/-- The rounded counts' base-ten logarithms, as the reference takes them. -/
def lv (W : IVec S16384x2048 32) : FVec Ideal S16384x2048 .f32 :=
  Host.divf (Host.log (bitcastToFloat (F := Ideal) .f32 (addi (Host.shli (addi (minsi (broadcastInDim S16384x2048 ![] bcast_S_S16384x2048 (id (constantI S_ 32 447#32))) (maxsi (broadcastInDim S16384x2048 ![] bcast_S_S16384x2048 (id (constantI S_ 32 0#32))) (subi (Host.shrui W (broadcastInDim S16384x2048 ![] bcast_S_S16384x2048 (constantI S_ 32 18#32))) (broadcastInDim S16384x2048 ![] bcast_S_S16384x2048 (constantI S_ 32 4064#32))))) (broadcastInDim S16384x2048 ![] bcast_S_S16384x2048 (constantI S_ 32 4064#32))) (broadcastInDim S16384x2048 ![] bcast_S_S16384x2048 (constantI S_ 32 18#32))) (broadcastInDim S16384x2048 ![] bcast_S_S16384x2048 (constantI S_ 32 131072#32))))) (broadcastInDim S16384x2048 ![] bcast_S_S16384x2048 (Host.log (constant S_ .f32 0x41200000#32)))

/-- Each is its word's level. -/
theorem lv_apply (W : IVec S16384x2048 32) (j : S16384x2048.Idx) : lv W j = ((lev (binN (W j)) : ℝ) : EReal) := by
  have h : IntOp.minsi 447#32 (IntOp.maxsi 0#32 (IntOp.subi (IntOp.shrui .host (W j) 18#32) 4064#32)) = bin (W j) := by
    rw [minsi_swap, maxsi_swap]; rfl
  show Ideal.div (Ideal.log (Ideal.ofBits .f32 (IntOp.addi (IntOp.shli .host (IntOp.addi (IntOp.minsi 447#32 (IntOp.maxsi 0#32 (IntOp.subi (IntOp.shrui .host (W j) 18#32) 4064#32))) 4064#32) 18#32) 131072#32))) (Ideal.log (Ideal.ofBits .f32 0x41200000#32)) = _
  rw [h, word_eq _ (binN_lt (W j)), div_ln10]
  exact log_word _ (binN_lt (W j))

/-- The sort's comparator is the order of the extended reals. -/
theorem comparator_eq (l r : EReal) : comparator_f32_d0 (F := Ideal) l r = 1#1 ↔ l < r := by
  have h : ∀ x : EReal, Scalar.select (Ideal.cmp .une x x) (Ideal.ofBits .f32 0x7FC00000#32) (Scalar.select (Ideal.cmp .oeq x (Ideal.ofBits .f32 0x00000000#32)) (Ideal.ofBits .f32 0x00000000#32) x) = x := by
    intro x
    rw [Ideal.ofBits_zero_f32]
    by_cases hx : x = 0
    · subst hx; simp [Ideal.cmp, Scalar.select]
    · simp [Ideal.cmp, Scalar.select, hx]
  have e : comparator_f32_d0 (F := Ideal) l r = Ideal.cmp .olt l r := by
    show Ideal.cmp .olt (Scalar.select (Ideal.cmp .une l l) (Ideal.ofBits .f32 0x7FC00000#32) (Scalar.select (Ideal.cmp .oeq l (Ideal.ofBits .f32 0x00000000#32)) (Ideal.ofBits .f32 0x00000000#32) l))
      (Scalar.select (Ideal.cmp .une r r) (Ideal.ofBits .f32 0x7FC00000#32) (Scalar.select (Ideal.cmp .oeq r (Ideal.ofBits .f32 0x00000000#32)) (Ideal.ofBits .f32 0x00000000#32) r)) = _
    rw [h, h]
  rw [e]
  unfold Ideal.cmp
  by_cases hlr : l < r <;> simp [hlr]

/-- A column sorted: some rearrangement of its rows under which the bins rise. -/
theorem sort_col (W : IVec S16384x2048 32) (c : Fin 2048) :
    ∃ σ : Fin 16384 → Fin 16384, Function.Bijective σ ∧ (∀ a b, a < b → binN (W (ix2 (σ a) c)) ≤ binN (W (ix2 (σ b) c)))
      ∧ ∀ i, Host.sort S16384x2048 0 (comparator_f32_d0 (F := Ideal)) (lv W) (ix2 i c) = ((lev (binN (W (ix2 (σ i) c))) : ℝ) : EReal) := by
  let bf : Fin 16384 → Fin 16384 → Bool := fun k k' => comparator_f32_d0 (F := Ideal) (lv W (ix2 k c)) (lv W (ix2 k' c)) == 1#1
  have hbf : ∀ k k', bf k k' = true ↔ lev (binN (W (ix2 k c))) < lev (binN (W (ix2 k' c))) := by
    intro k k'
    show ((comparator_f32_d0 (F := Ideal) (lv W (ix2 k c)) (lv W (ix2 k' c)) == 1#1) = true) ↔ _
    rw [beq_iff_eq, comparator_eq, lv_apply, lv_apply, EReal.coe_lt_coe_iff]
  have hbf' : ∀ k k', bf k k' = false ↔ lev (binN (W (ix2 k' c))) ≤ lev (binN (W (ix2 k c))) := by
    intro k k'
    rw [← not_lt, ← hbf, Bool.not_eq_true]
  refine ⟨sortedFrom bf, ⟨sortedFrom_injective bf, sortedFrom_surjective bf⟩, fun a b hab => ?_, fun i => ?_⟩
  · have h := sortedFrom_noInversion bf bf (fun a b h => (hbf' b a).mpr ((hbf a b).mp h).le) (fun _ _ h => h)
      (fun x y z h1 h2 => (hbf' x z).mpr (((hbf' y z).mp h2).trans ((hbf' x y).mp h1))) a b hab
    exact lev_strictMono.le_iff_le.mp ((hbf' _ _).mp h)
  · rw [← lv_apply]
    have hd : 0 < S16384x2048.rank := by decide
    have hal : ∀ k : Fin 16384, Shape.Idx.along (s := S16384x2048) (ix2 i c) ⟨0, hd⟩ k = ix2 k c := by
      intro k; funext a
      match a with
      | ⟨0, _⟩ => rfl
      | ⟨1, _⟩ => rfl
    unfold Host.sort
    rw [dif_pos hd]
    have hb : (fun k k' : Fin 16384 => comparator_f32_d0 (F := Ideal) (lv W (Shape.Idx.along (s := S16384x2048) (ix2 i c) ⟨0, hd⟩ k)) (lv W (Shape.Idx.along (s := S16384x2048) (ix2 i c) ⟨0, hd⟩ k')) == 1#1) = bf := by
      funext k k'; rw [hal, hal]
    exact congrArg (lv W) ((hal _).trans (congrArg (fun b => ix2 (sortedFrom b i) c) hb))

end Cert.RefValue

end
-- ==== Proof.RefSums.lean ====
/-
  The reference's two means at the extended reals as one real number: the levels' steps weighted by the columns'
  cumulative counts.
-/
module

public import proofs.«01_k».proof.Proof.RefValue

@[expose] public section

noncomputable section

namespace Cert.RefValue

open Cert.ReferenceIdeal Cert.ReferenceIdeal.Gen Cert.Hist Idealize.ShloMosaic

/-- The bins of column `c`. -/
def colBin (W : IVec S16384x2048 32) (c : Fin 2048) (r : Fin 16384) : ℕ := binN (W (ix2 r c))

/-- The weighted steps of the lowest rows, over all columns. -/
def lowSum (W : IVec S16384x2048 32) : ℝ :=
  ∑ c : Fin 2048, ∑ j : Fin 447, (lev (j.val + 1) - lev j.val) * max (4096 - (cum (colBin W c) j.val : ℝ)) 0

/-- The weighted steps of the highest rows, over all columns. -/
def highSum (W : IVec S16384x2048 32) : ℝ :=
  ∑ c : Fin 2048, ∑ j : Fin 447, (lev (j.val + 1) - lev j.val) * min 1638 (16384 - (cum (colBin W c) j.val : ℝ))

/-- The second result as one real number. -/
def resultTwo (W : IVec S16384x2048 32) : ℝ :=
  (lowSum W + 8388608 * lev 0) / 8388608 + (5 - (highSum W + 3354624 * lev 0) / 3354624)

/-- The sorted levels of all columns. -/
def srt (W : IVec S16384x2048 32) : FVec Ideal S16384x2048 .f32 := Host.sort S16384x2048 0 (comparator_f32_d0 (F := Ideal)) (lv W)

/-- The reference's lower sum is the sum of the clipped sorted levels. -/
theorem low_apply (W : IVec S16384x2048 32) (j : S_.Idx) :
    Host.reduceAdd (F := Ideal) (φ := .f32) (maximumf (subf (extractStridedSlice S4096x2048 ![0, 0] (srt W) slices_S16384x2048_S4096x2048_0_0) (broadcastInDim S4096x2048 ![] bcast_S_S4096x2048 (constant S_ .f32 0x00000000#32))) (broadcastInDim S4096x2048 ![] bcast_S_S4096x2048 (constant S_ .f32 0x00000000#32))) (constant S_ .f32 0x00000000#32) reducesTo_S4096x2048_S_d0_1 h_S_ j
      = ∑ c : Fin 2048, ∑ k : Fin 4096, max (srt W (ix2 ⟨k.val, by omega⟩ c) - 0) 0 := by
  generalize srt W = x
  pointwise
  rw [Finset.sum_comm]

/-- The reference's upper sum is the sum of the clipped distances of the sorted levels from 5. -/
theorem high_apply (W : IVec S16384x2048 32) (j : S_.Idx) :
    Host.reduceAdd (F := Ideal) (φ := .f32) (maximumf (subf (broadcastInDim S1638x2048 ![] bcast_S_S1638x2048 (constant S_ .f32 0x40A00000#32)) (extractStridedSlice S1638x2048 ![14746, 0] (srt W) slices_S16384x2048_S1638x2048_14746_0)) (broadcastInDim S1638x2048 ![] bcast_S_S1638x2048 (constant S_ .f32 0x00000000#32))) (constant S_ .f32 0x00000000#32) reducesTo_S1638x2048_S_d0_1 h_S_ j
      = ∑ c : Fin 2048, ∑ k : Fin 1638, max (Ideal.ofBits .f32 0x40A00000#32 - srt W (ix2 ⟨14746 + k.val, by omega⟩ c)) 0 := by
  generalize srt W = x
  pointwise
  rw [Finset.sum_comm]

/-- The constants' words. -/
theorem ofBits_five : Ideal.ofBits .f32 0x40A00000#32 = ((5 : ℝ) : EReal) := by
  simp [Ideal.ofBits, Ideal.ieee, -EReal.coe_mul]; norm_num

theorem ofBits_lowCount : Ideal.ofBits .f32 0x4B000000#32 = ((8388608 : ℝ) : EReal) := by
  simp [Ideal.ofBits, Ideal.ieee, -EReal.coe_mul]

theorem ofBits_highCount : Ideal.ofBits .f32 0x4A4CC000#32 = ((3354624 : ℝ) : EReal) := by
  simp [Ideal.ofBits, Ideal.ieee, -EReal.coe_mul]; norm_num

/-- The larger of a nonnegative real and zero is the real. -/
theorem max_coe_zero (r : ℝ) (h : 0 ≤ r) : max ((r : ℝ) : EReal) 0 = ((r : ℝ) : EReal) :=
  max_eq_left (by exact_mod_cast h)

/-- The lower sum. -/
theorem low_eq (W : IVec S16384x2048 32) :
    ∑ c : Fin 2048, ∑ k : Fin 4096, max (srt W (ix2 ⟨k.val, by omega⟩ c) - 0) 0 = ((lowSum W + 8388608 * lev 0 : ℝ) : EReal) := by
  have h : ∀ c : Fin 2048, ∑ k : Fin 4096, max (srt W (ix2 ⟨k.val, by omega⟩ c) - 0) 0
      = ((4096 * lev 0 + ∑ j : Fin 447, (lev (j.val + 1) - lev j.val) * max (4096 - (cum (colBin W c) j.val : ℝ)) 0 : ℝ) : EReal) := by
    intro c
    obtain ⟨σ, hσ, hm, hv⟩ := sort_col W c
    have e : ∀ k : Fin 4096, max (srt W (ix2 ⟨k.val, by omega⟩ c) - 0) 0 = ((lev (colBin W c (σ ⟨k.val, by omega⟩)) : ℝ) : EReal) := by
      intro k
      rw [show srt W (ix2 ⟨k.val, by omega⟩ c) = _ from hv ⟨k.val, by omega⟩, sub_zero]
      exact max_coe_zero _ (lev_nonneg _)
    rw [Finset.sum_congr rfl fun k _ => e k, coe_sum]
    have hs := sum_low lev (fun i => colBin W c (σ i)) hm (fun i => by have := binN_lt (W (ix2 (σ i) c)); unfold colBin; omega)
    rw [hs]
    simp only [cum_perm (colBin W c) σ hσ]
  rw [Finset.sum_congr rfl fun c _ => h c, coe_sum, Finset.sum_add_distrib]
  refine congrArg (fun r : ℝ => (r : EReal)) ?_
  unfold lowSum
  rw [Finset.sum_const, Finset.card_univ, Fintype.card_fin, nsmul_eq_mul]
  push_cast
  ring

/-- The upper sum. -/
theorem high_eq (W : IVec S16384x2048 32) :
    ∑ c : Fin 2048, ∑ k : Fin 1638, max (Ideal.ofBits .f32 0x40A00000#32 - srt W (ix2 ⟨14746 + k.val, by omega⟩ c)) 0
      = ((5 * 3354624 - (highSum W + 3354624 * lev 0) : ℝ) : EReal) := by
  have h : ∀ c : Fin 2048, ∑ k : Fin 1638, max (Ideal.ofBits .f32 0x40A00000#32 - srt W (ix2 ⟨14746 + k.val, by omega⟩ c)) 0
      = ((1638 * 5 - (1638 * lev 0 + ∑ j : Fin 447, (lev (j.val + 1) - lev j.val) * min 1638 (16384 - (cum (colBin W c) j.val : ℝ))) : ℝ) : EReal) := by
    intro c
    obtain ⟨σ, hσ, hm, hv⟩ := sort_col W c
    have e : ∀ k : Fin 1638, max (Ideal.ofBits .f32 0x40A00000#32 - srt W (ix2 ⟨14746 + k.val, by omega⟩ c)) 0
        = ((5 - lev (colBin W c (σ ⟨14746 + k.val, by omega⟩)) : ℝ) : EReal) := by
      intro k
      rw [show srt W (ix2 ⟨14746 + k.val, by omega⟩ c) = _ from hv ⟨14746 + k.val, by omega⟩, ofBits_five, ← EReal.coe_sub]
      exact max_coe_zero _ (sub_nonneg.mpr (lev_le _ (binN_lt _)))
    rw [Finset.sum_congr rfl fun k _ => e k, coe_sum, Finset.sum_sub_distrib]
    have hs := sum_high lev (fun i => colBin W c (σ i)) hm (fun i => by have := binN_lt (W (ix2 (σ i) c)); unfold colBin; omega)
    rw [hs]
    simp only [cum_perm (colBin W c) σ hσ]
    refine congrArg (fun r : ℝ => (r : EReal)) ?_
    rw [Finset.sum_const, Finset.card_univ, Fintype.card_fin, nsmul_eq_mul]
    push_cast
    rfl
  rw [Finset.sum_congr rfl fun c _ => h c, coe_sum, Finset.sum_sub_distrib, Finset.sum_add_distrib]
  refine congrArg (fun r : ℝ => (r : EReal)) ?_
  unfold highSum
  rw [Finset.sum_const, Finset.sum_const, Finset.card_univ, Fintype.card_fin, nsmul_eq_mul, nsmul_eq_mul]
  push_cast
  ring

/-- The reference's second result is that real number. -/
theorem two_eq (W : IVec S16384x2048 32) :
    addf (Host.divf (Host.reduceAdd (F := Ideal) (φ := .f32) (maximumf (subf (extractStridedSlice S4096x2048 ![0, 0] (srt W) slices_S16384x2048_S4096x2048_0_0) (broadcastInDim S4096x2048 ![] bcast_S_S4096x2048 (constant S_ .f32 0x00000000#32))) (broadcastInDim S4096x2048 ![] bcast_S_S4096x2048 (constant S_ .f32 0x00000000#32))) (constant S_ .f32 0x00000000#32) reducesTo_S4096x2048_S_d0_1 h_S_) (constant S_ .f32 0x4B000000#32))
      (Host.divf (Host.reduceAdd (F := Ideal) (φ := .f32) (maximumf (subf (broadcastInDim S1638x2048 ![] bcast_S_S1638x2048 (constant S_ .f32 0x40A00000#32)) (extractStridedSlice S1638x2048 ![14746, 0] (srt W) slices_S16384x2048_S1638x2048_14746_0)) (broadcastInDim S1638x2048 ![] bcast_S_S1638x2048 (constant S_ .f32 0x00000000#32))) (constant S_ .f32 0x00000000#32) reducesTo_S1638x2048_S_d0_1 h_S_) (constant S_ .f32 0x4A4CC000#32))
      = fun _ => ((resultTwo W : ℝ) : EReal) := by
  funext j
  have hl := (low_apply W j).trans (low_eq W)
  have hh := (high_apply W j).trans (high_eq W)
  refine (congrArg₂ (fun a b : EReal => Ideal.div a (Ideal.ofBits .f32 0x4B000000#32) + Ideal.div b (Ideal.ofBits .f32 0x4A4CC000#32)) hl hh).trans ?_
  show Ideal.div _ _ + Ideal.div _ _ = _
  rw [ofBits_lowCount, ofBits_highCount, Ideal.div_coe (by norm_num), Ideal.div_coe (by norm_num), ← EReal.coe_mul, ← EReal.coe_mul, ← EReal.coe_add]
  refine congrArg (fun r : ℝ => (r : EReal)) ?_
  unfold resultTwo
  ring

end Cert.RefValue

end
-- ==== Proof.FinValue.lean ====
/-
  The second dense call's value at the extended reals: the cumulative counts it recovers from the histogram, and the
  weighted steps it sums.
-/
module

public import proofs.«01_k».proof.Proof.LaunchIdeal
public import proofs.«01_k».proof.Proof.RefSums

@[expose] public section

noncomputable section

namespace Cert.FinValue

open Cert.RefValue (coe_sum word_eq colBin lowSum highSum resultTwo ofBits_five ofBits_lowCount ofBits_highCount)
open Cert.KernelIdeal Cert.KernelIdeal.Gen Cert.Hist Idealize.ShloMosaic

/-- How many of the 8192 rows of half `h` put column `c`'s word in bin `b`. -/
def half (W : Vec Ideal S16384x2048 .i32) (h c b : ℕ) : ℕ :=
  rowsIn (fun r => at2 (R := 16384) (C := 2048) (by decide) (by decide) W (8192 * h + r) c) b 8192

theorem half_le (W : Vec Ideal S16384x2048 .i32) (h c b : ℕ) : half W h c b ≤ 8192 := rowsIn_le _ _ _

/-- The histogram as the second dense call reads it: half, column, bin. -/
theorem rows_apply (W : Vec Ideal S16384x2048 .i32) (h : Fin 2) (c : Fin 2048) (b : Fin 448) :
    Proof.rowsOf (F := Ideal) (fun j => histAt W (j 0).val) (ix3 h c b) = BitVec.ofNat 32 (half W h.val c.val b.val) := by
  pointwise [Proof.rowsOf]
  have h1 : (h.val * 919552 + c.val / 128 * 57472 + c.val % 128 * 449 + b.val) / 57472 = 16 * h.val + c.val / 128 := by omega
  have h2 : (h.val * 919552 + c.val / 128 * 57472 + c.val % 128 * 449 + b.val) % 57472 = c.val % 128 * 449 + b.val := by omega
  unfold histAt St half
  rw [h1, h2, show (c.val % 128 * 449 + b.val) / 449 = c.val % 128 by omega, show (c.val % 128 * 449 + b.val) % 449 = b.val by omega, if_neg (by omega), Nat.add_zero]
  refine congrArg (BitVec.ofNat 32) (rowsIn_congr fun r hr => ?_)
  unfold tileW
  rw [show (16 * h.val + c.val / 128) / 16 = h.val by omega, show 128 * ((16 * h.val + c.val / 128) % 16) + c.val % 128 = c.val by omega]

/-- The two halves' counts add to the column's. -/
theorem half_add (W : Vec Ideal S16384x2048 .i32) (c : Fin 2048) (b : ℕ) :
    half W 0 c.val b + half W 1 c.val b = (Finset.univ.filter fun r => colBin W c r = b).card := by
  have e : ∀ r : Fin 16384, colBin W c r = binN (at2 (R := 16384) (C := 2048) (by decide) (by decide) W r.val c.val) := by
    intro r
    unfold colBin at2
    congr 2
    funext a
    match a with
    | ⟨0, _⟩ => exact Fin.ext (Nat.mod_eq_of_lt r.isLt).symm
    | ⟨1, _⟩ => exact Fin.ext (Nat.mod_eq_of_lt c.isLt).symm
  have hsplit : ∀ f : ℕ → ℕ, ∑ r ∈ Finset.range 16384, f r = ∑ r ∈ Finset.range 8192, f r + ∑ r ∈ Finset.range 8192, f (8192 + r) := fun f =>
    Finset.sum_range_add f 8192 8192
  rw [Finset.card_filter, Finset.sum_congr rfl fun r _ => by rw [e r],
    Fin.sum_univ_eq_sum_range (fun r => if binN (at2 (R := 16384) (C := 2048) (by decide) (by decide) W r c.val) = b then 1 else 0) 16384,
    hsplit]
  unfold half rowsIn
  rw [Finset.card_filter, Finset.card_filter]
  simp only [Nat.mul_zero, Nat.zero_add, Nat.mul_one]

/-- The words of the constants. -/
theorem ofBits_inv256 : Ideal.ofBits .f32 0x3B800000#32 = ((1 / 256 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_1638 : Ideal.ofBits .f32 0x44CCC000#32 = ((1638 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_invLow : Ideal.ofBits .f32 0x34000000#32 = ((1 / 8388608 : ℝ) : EReal) := by
  simp [Ideal.ofBits, Ideal.ieee, -EReal.coe_mul]; norm_num

/-- The named reciprocal. -/
theorem named_inv : Named.named (F := Ideal) (φ := .f32) κ "inv_top_count" 0x34A00A01#32 = ((1 / 3354624 : ℝ) : EReal) :=
  (IdealRules.named_const.ideal_named_scalar κ "inv_top_count" _ _ rfl).trans (by norm_num)

/-- The named reciprocal of the logarithm of ten. -/
theorem named_ln10 : Named.named (F := Ideal) (φ := .f32) κ "inv_ln10" 0x3EDE5BD9#32 = ((lnC : ℝ) : EReal) :=
  IdealRules.named_const.ideal_named_scalar κ "inv_ln10" _ _ rfl

/-- The larger and the smaller of two reals, as extended reals. -/
theorem coe_max (a b : ℝ) : ((max a b : ℝ) : EReal) = max ((a : ℝ) : EReal) ((b : ℝ) : EReal) := EReal.coe_strictMono.monotone.map_max

theorem coe_min (a b : ℝ) : ((min a b : ℝ) : EReal) = min ((a : ℝ) : EReal) ((b : ℝ) : EReal) := EReal.coe_strictMono.monotone.map_min

/-- Two counts' words add to the number of the sum. -/
theorem count_apply (a b : ℕ) (ha : a ≤ 8192) (hb : b ≤ 8192) :
    FloatOps.sitofp (F := Ideal) .f32 (IntOp.addi (BitVec.ofNat 32 a) (BitVec.ofNat 32 b)) = (((a + b : ℕ) : ℝ) : EReal) := by
  have h : (IntOp.addi (BitVec.ofNat 32 a) (BitVec.ofNat 32 b)).toInt = ((a + b : ℕ) : ℤ) := by
    unfold IntOp.addi
    rw [← BitVec.ofNat_add, BitVec.toInt_eq_toNat_of_lt (by rw [BitVec.toNat_ofNat]; omega), BitVec.toNat_ofNat, Nat.mod_eq_of_lt (by omega)]
  show (((IntOp.addi (BitVec.ofNat 32 a) (BitVec.ofNat 32 b)).toInt : ℝ) : EReal) = _
  rw [h]
  norm_cast

/-- The triangle's entry. -/
theorem mask_apply (k j : ℕ) (hk : k < 448) (hj : j < 448) :
    FloatOps.sitofp (F := Ideal) .f32 (BitVec.setWidth 32 (IntOp.cmpi .sle (BitVec.ofNat 32 k) (BitVec.ofNat 32 j))) = ((if k ≤ j then 1 else 0 : ℝ) : EReal) := by
  have hs : (BitVec.ofNat 32 k).sle (BitVec.ofNat 32 j) = decide (k ≤ j) := by
    have h : ∀ n : ℕ, n < 448 → (BitVec.ofNat 32 n).toInt = n := fun n hn => by
      rw [BitVec.toInt_eq_toNat_of_lt (by rw [BitVec.toNat_ofNat]; omega), BitVec.toNat_ofNat, Nat.mod_eq_of_lt (by omega)]
    rw [BitVec.sle_eq_decide, h k hk, h j hj]
    simp
  show (((BitVec.setWidth 32 (BitVec.ofBool ((BitVec.ofNat 32 k).sle (BitVec.ofNat 32 j)))).toInt : ℝ) : EReal) = _
  rw [hs]
  by_cases h : k ≤ j
  · rw [if_pos h, decide_eq_true h, show (BitVec.setWidth 32 (BitVec.ofBool true)).toInt = 1 from by decide]; norm_num
  · rw [if_neg h, decide_eq_false h, show (BitVec.setWidth 32 (BitVec.ofBool false)).toInt = 0 from by decide]; norm_num

/-- The cumulative counts, recovered from the two halves of the histogram. -/
theorem pay4_apply (W : Vec Ideal S16384x2048 .i32) (c : Fin 2048) (j : Fin 447) :
    k2_pay4 (F := Ideal) (Proof.rowsOf (F := Ideal) fun j => histAt W (j 0).val) (ix2 c j) = (((cum (colBin W c) j.val : ℕ) : ℝ) : EReal) := by
  have hx := rows_apply W
  generalize Proof.rowsOf (F := Ideal) (fun j => histAt W (j 0).val) = x at hx
  pointwise [k2_pay4]
  have hc : ∀ k : Fin 448, FloatOps.sitofp (F := Ideal) .f32 (IntOp.addi (x (ix3 0 c k)) (x (ix3 1 c k)))
      = ((((Finset.univ.filter fun r => colBin W c r = k.val).card : ℕ) : ℝ) : EReal) := by
    intro k
    rw [hx, hx, count_apply _ _ (half_le _ _ _ _) (half_le _ _ _ _)]
    exact congrArg (fun n : ℕ => ((n : ℝ) : EReal)) (half_add W c k.val)
  have hm : ∀ k : Fin 448, FloatOps.sitofp (F := Ideal) .f32 (BitVec.setWidth 32 (IntOp.cmpi .sle (BitVec.ofNat 32 k.val) (BitVec.ofNat 32 j.val)))
      = ((if k.val ≤ j.val then 1 else 0 : ℝ) : EReal) := fun k => mask_apply k.val j.val k.isLt (by omega)
  have hf : ∀ r : ℝ, Ideal.liftRound Int.floor ((r : ℝ) : EReal) = (((⌊r⌋ : ℤ) : ℝ) : EReal) := fun _ => rfl
  simp only [hc, hm, ofBits_inv256, ofBits_256, ← EReal.coe_mul, ← EReal.coe_sub, hf, coe_sum, ← EReal.coe_add]
  refine congrArg (fun r : ℝ => (r : EReal)) ?_
  rw [cum_eq_sum (colBin W c) (fun r => binN_lt _) j.val, Finset.sum_mul, ← Finset.sum_add_distrib]
  exact Finset.sum_congr rfl fun k _ => by ring

/-- The rows below the lowest quarter's end that lie past a step. -/
theorem pay5_apply (W : Vec Ideal S16384x2048 .i32) (c : Fin 2048) (j : Fin 447) :
    k2_pay5 (F := Ideal) (Proof.rowsOf (F := Ideal) fun j => histAt W (j 0).val) (ix2 c j) = ((max (4096 - (cum (colBin W c) j.val : ℝ)) 0 : ℝ) : EReal) := by
  have h := pay4_apply W c j
  generalize Proof.rowsOf (F := Ideal) (fun j => histAt W (j 0).val) = x at h
  show max (Ideal.ofBits .f32 0x45800000#32 - k2_pay4 (F := Ideal) x (ix2 c j)) (Ideal.ofBits .f32 0x00000000#32) = _
  rw [h, ofBits_4096, Ideal.ofBits_zero_f32, ← EReal.coe_sub, ← EReal.coe_zero, ← coe_max]

/-- The levels. -/
theorem pay2_apply (q : Fin 448) : k2_pay2 (F := Ideal) (ix2 0 q) = ((lev q.val : ℝ) : EReal) := by
  pointwise [k2_pay2]
  have hn : (BitVec.ofNat 32 q.val).toNat = q.val := by rw [BitVec.toNat_ofNat]; omega
  rw [word_eq (BitVec.ofNat 32 q.val) (by omega), hn, named_ln10]
  exact log_word _ q.isLt

/-- The levels' steps. -/
theorem pay3_apply (j : Fin 447) : k2_pay3 (F := Ideal) (ix2 0 j) = ((lev (j.val + 1) - lev j.val : ℝ) : EReal) := by
  have h1 := pay2_apply ⟨1 + j.val, by omega⟩
  have h2 := pay2_apply ⟨j.val, by omega⟩
  unfold k2_pay3
  generalize k2_pay2 (F := Ideal) = y at h1 h2
  pointwise
  rw [h1, h2, ← EReal.coe_sub]
  show ((lev (1 + j.val) - lev j.val : ℝ) : EReal) = _
  rw [Nat.add_comm 1 j.val]

/-- The second result. -/
theorem res2_eq (W : Vec Ideal S16384x2048 .i32) : Proof.res2 (F := Ideal) W = fun _ => ((resultTwo W : ℝ) : EReal) := by
  have h2 := pay2_apply 0
  have h3 := pay3_apply
  have h4 := pay4_apply W
  have h5 := pay5_apply W
  have hfin : Proof.finOut (F := Ideal) (Proof.rowsOf (F := Ideal) fun j => histAt W (j 0).val) = fun _ => ((resultTwo W : ℝ) : EReal) := by
    unfold Proof.finOut
    generalize k2_pay2 (F := Ideal) = v37 at h2
    generalize k2_pay3 (F := Ideal) = v40 at h3
    generalize k2_pay4 (F := Ideal) (Proof.rowsOf (F := Ideal) fun j => histAt W (j 0).val) = v41 at h4
    generalize k2_pay5 (F := Ideal) (Proof.rowsOf (F := Ideal) fun j => histAt W (j 0).val) = v45 at h5
    funext _
    pointwise [k2_pay1]
    simp only [h2, h3, h4, h5, ofBits_five, ofBits_lowCount, ofBits_highCount, ofBits_invLow, ofBits_1638, ofBits_16384, named_inv, ← EReal.coe_sub, ← coe_min, ← EReal.coe_mul, coe_sum, ← EReal.coe_add]
    refine congrArg (fun r : ℝ => (r : EReal)) ?_
    unfold resultTwo lowSum highSum
    rw [show ((0 : Fin 448).val) = 0 from rfl]
    ring
  unfold Proof.res2
  rw [hfin]
  rfl

end Cert.FinValue

end
-- ==== Proof.Algebraic.lean ====
/-
  The value claim: at the extended reals the kernel and the reference leave the same two results.
-/
module

public import proofs.«01_k».proof.Proof.FinValue
public import proofs.«01_k».proof.Proof.Frames

@[expose] public section

noncomputable section

namespace Cert.Proof

open Idealize.ShloMosaic Idealize.ShloMosaic.TcCoe Idealize.SL.Sem

/-- The scale's word and its divisor's. -/
theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

open Cert.ReferenceIdeal Cert.ReferenceIdeal.Gen in
/-- The first result: a quarter of a number is the number divided by four, and the named constant divides by the
    logarithm of ten. -/
theorem one_eq (W : IVec S16384x2048 32) :
    (Host.tanh (Host.divf (subf (Host.divf (Host.log (bitcastToFloat (F := Ideal) .f32 W)) (broadcastInDim S16384x2048 ![] bcast_S_S16384x2048 (Host.log (constant S_ .f32 0x41200000#32)))) (broadcastInDim S16384x2048 ![] bcast_S_S16384x2048 (constant S_ .f32 0x40800000#32))) (broadcastInDim S16384x2048 ![] bcast_S_S16384x2048 (constant S_ .f32 0x40800000#32))) : FVec Ideal S16384x2048 .f32)
      = Cert.KernelIdeal.Proof.res1 (F := Ideal) W := by
  funext j
  have h : ∀ x : EReal, Ideal.div x (Ideal.ofBits .f32 0x40800000#32) = x * Ideal.ofBits .f32 0x3E800000#32 := fun x => by
    rw [ofBits_four, ofBits_quarter]; exact Ideal.div_coe (by norm_num) x
  have h' : ∀ x : EReal, Ideal.div x (Ideal.log (Ideal.ofBits .f32 0x41200000#32))
      = x * Named.named (F := Ideal) (φ := .f32) Cert.KernelIdeal.κ "inv_ln10" 0x3EDE5BD9#32 := fun x => by
    rw [Cert.FinValue.named_ln10]; exact Cert.Hist.div_ln10 x
  exact congrArg Ideal.tanh ((h _).trans (congrArg (fun y => (y - Ideal.ofBits .f32 0x40800000#32) * Ideal.ofBits .f32 0x3E800000#32) (h' _)))

/-- At the extended reals both programs leave the same two results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Proof.res1 (F := Ideal) (Cert.KernelIdeal.Proof.words m c), fun c => Cert.KernelIdeal.Proof.res2 (F := Ideal) (Cert.KernelIdeal.Proof.words m c), ?_, ?_⟩
  · exact (θ_run Cert.KernelIdeal.defs _ _).mono (fun _ h c => ⟨(h.1 c).2.1, (h.1 c).2.2, (h.1 c).1⟩)
      (Cert.KernelIdeal.Proof.run_main (F := Ideal) m g Cert.KernelIdeal.Proof.facts)
  · refine (θ_run Cert.ReferenceIdeal.defs _ _).mono (fun _ h c => ⟨?_, ?_, (h c).2.2⟩) (Cert.ReferenceIdeal.Value.run (F := Ideal) m' g')
    · refine (h c).1.trans ?_
      rw [hm c]
      exact one_eq _
    · refine (h c).2.1.trans ?_
      rw [hm c]
      exact (Cert.RefValue.two_eq _).trans (Cert.FinValue.res2_eq _).symm

end Cert.Proof

end
-- ==== Proof.lean ====
module

public import proofs.«01_k».proof.Defs
public import proofs.«01_k».proof.Proof.Frames
public import proofs.«01_k».proof.Proof.Algebraic

@[expose] public section

noncomputable section

namespace Cert.Proof

/-- Everything this certificate claims. -/
theorem claim : Cert.Claim :=
  ⟨Cert.Kernel.Gen.facts, Cert.KernelIdeal.Gen.facts, Cert.ReferenceIdeal.Gen.facts, frame_p, frame_pi, frame_ri, preserves, algebraic⟩

end Cert.Proof

end
